-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nothing_masked [hPre_nothing_masked : Cert.Pre_nothing_masked.Facts] (m : (ℓ : Loc Cert.KernelIdeal.nD Cert.KernelIdeal.τ Cert.KernelIdeal.sig) → Buf (Elt Ideal) ℓ) : Prop :=
  ∀ c : Dev Cert.KernelIdeal.nD,
    (Cert.Pre_nothing_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nothing_masked [hPre_nothing_masked : Cert.Pre_nothing_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nothing_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_nothing_masked [hKernelIdeal : Cert.KernelIdeal.Facts] [hPre_nothing_masked : Cert.Pre_nothing_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nothing_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_nothing_masked [hReferenceIdeal : Cert.ReferenceIdeal.Facts] [hPre_nothing_masked : Cert.Pre_nothing_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nothing_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_nothing_masked [hKernelIdeal : Cert.KernelIdeal.Facts] [hReferenceIdeal : Cert.ReferenceIdeal.Facts] [hPre_nothing_masked : Cert.Pre_nothing_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nothing_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_nothing_masked : Cert.Pre_nothing_masked.Facts),
    quiescent_Kernel (hKernel := hKernel)
    ∧ quiescent_KernelIdeal (hKernelIdeal := hKernelIdeal)
    ∧ quiescent_KernelIdeal_pre_nothing_masked (hKernelIdeal := hKernelIdeal) (hPre_nothing_masked := hPre_nothing_masked)
    ∧ quiescent_ReferenceIdeal (hReferenceIdeal := hReferenceIdeal)
    ∧ quiescent_ReferenceIdeal_pre_nothing_masked (hReferenceIdeal := hReferenceIdeal) (hPre_nothing_masked := hPre_nothing_masked)
    ∧ preserves_Kernel_KernelIdeal
    ∧ algebraic_KernelIdeal_ReferenceIdeal_pre_nothing_masked (hKernelIdeal := hKernelIdeal) (hReferenceIdeal := hReferenceIdeal) (hPre_nothing_masked := hPre_nothing_masked)
-- ==== Pre_nothing_masked.lean ====
abbrev S1x12x2048x64 : Shape := ⟨4, ![1, 12, 2048, 64]⟩
abbrev S1x1x2048x2048 : Shape := ⟨4, ![1, 1, 2048, 2048]⟩
abbrev S1x1x2048x1 : Shape := ⟨4, ![1, 1, 2048, 1]⟩
abbrev S1x1x1x2048 : Shape := ⟨4, ![1, 1, 1, 2048]⟩
abbrev S1x32x64 : Shape := ⟨3, ![1, 32, 64]⟩
abbrev S12x30x3 : Shape := ⟨3, ![12, 30, 3]⟩
abbrev S_ : Shape := ⟨0, ![]⟩

class Facts : Prop where
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  bcast_S_S1x1x2048x1 : S_.BroadcastsInDim S1x1x2048x1 (![] : Fin 0 → Fin S1x1x2048x1.rank)
  reducesTo_S1x1x2048x1_S_d0_1_2_3 : S1x1x2048x1.ReducesTo [0, 1, 2, 3] S_
  bcast_S_S1x1x1x2048 : S_.BroadcastsInDim S1x1x1x2048 (![] : Fin 0 → Fin S1x1x1x2048.rank)
  reducesTo_S1x1x1x2048_S_d0_1_2_3 : S1x1x1x2048.ReducesTo [0, 1, 2, 3] S_
  bcast_S_S12x30x3 : S_.BroadcastsInDim S12x30x3 (![] : Fin 0 → Fin S12x30x3.rank)
  reducesTo_S12x30x3_S_d0_1_2 : S12x30x3.ReducesTo [0, 1, 2] S_

variable [Facts]

def fn_part1 {F : FTy → Type} [FloatOps F] (main_arg5 : FVec F S1x1x1x2048 .f32) (main_arg8 : IVec S12x30x3 32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S1x1x1x2048 .f32 := broadcastInDim S1x1x1x2048 ![] bcast_S_S1x1x1x2048 main_cst_6
  let main_v18 : IVec S1x1x1x2048 1 := cmpf .une main_arg5 main_v17
  let main_c_7 : IVec S_ 1 := constantI S_ 1 1#1
  let main_v19 : IVec S_ 1 := (fun x v => Host.reduce IntOp.andi x v reducesTo_S1x1x1x2048_S_d0_1_2_3 h_S_) main_v18 main_c_7
  let main_v20 : IVec S_ 1 := andi main_v16 main_v19
  let main_c_8 : IVec S_ 32 := constantI S_ 32 0#32
  let main_v21 : IVec S12x30x3 32 := broadcastInDim S12x30x3 ![] bcast_S_S12x30x3 main_c_8
  let main_v22 : IVec S12x30x3 1 := cmpi .sge main_arg8 main_v21
  let main_c_9 : IVec S_ 1 := constantI S_ 1 1#1
  let main_v23 : IVec S_ 1 := (fun x v => Host.reduce IntOp.andi x v reducesTo_S12x30x3_S_d0_1_2 h_S_) main_v22 main_c_9
  let main_v24 : IVec S_ 1 := andi main_v20 main_v23
  let main_c_10 : IVec S_ 32 := constantI S_ 32 32#32
  let main_v25 : IVec S12x30x3 32 := broadcastInDim S12x30x3 ![] bcast_S_S12x30x3 main_c_10
  let main_v26 : IVec S12x30x3 1 := cmpi .slt main_arg8 main_v25
  let main_c_11 : IVec S_ 1 := constantI S_ 1 1#1
  let main_v27 : IVec S_ 1 := (fun x v => Host.reduce IntOp.andi x v reducesTo_S12x30x3_S_d0_1_2 h_S_) main_v26 main_c_11
  let main_v28 : IVec S_ 1 := andi main_v24 main_v27
  main_v28

def fn {F : FTy → Type} [FloatOps F] (main_arg0 : FVec F S1x12x2048x64 .f32) (main_arg1 : FVec F S1x12x2048x64 .f32) (main_arg2 : FVec F S1x12x2048x64 .f32) (main_arg3 : FVec F S1x1x2048x2048 .f32) (main_arg4 : FVec F S1x1x2048x1 .f32) (main_arg5 : FVec F S1x1x1x2048 .f32) (main_arg6 : FVec F S1x32x64 .f32) (main_arg7 : FVec F S1x32x64 .f32) (main_arg8 : IVec S12x30x3 32) : IVec S_ 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_c : IVec S_ 1 := constantI S_ 1 1#1
  let main_v3 : IVec S_ 1 := (fun x v => Host.reduce IntOp.andi x v reducesTo_S1x12x2048x64_S_d0_1_2_3 h_S_) main_v2 main_c
  let main_v4 : FVec F S1x12x2048x64 .f32 := Host.absf main_arg1
  let main_cst_0 : FVec F S_ .f32 := constant S_ .f32 0x7F800000#32
  let main_v5 : FVec F S1x12x2048x64 .f32 := broadcastInDim S1x12x2048x64 ![] bcast_S_S1x12x2048x64 main_cst_0
  let main_v6 : IVec S1x12x2048x64 1 := cmpf .olt main_v4 main_v5
  let main_c_1 : IVec S_ 1 := constantI S_ 1 1#1
  let main_v7 : IVec S_ 1 := (fun x v => Host.reduce IntOp.andi x v reducesTo_S1x12x2048x64_S_d0_1_2_3 h_S_) main_v6 main_c_1
  let main_v8 : IVec S_ 1 := andi main_v3 main_v7
  let main_cst_2 : FVec F S_ .f32 := constant S_ .f32 0x00000000#32
  let main_v9 : FVec F S1x1x2048x2048 .f32 := broadcastInDim S1x1x2048x2048 ![] bcast_S_S1x1x2048x2048 main_cst_2
  let main_v10 : IVec S1x1x2048x2048 1 := cmpf .une main_arg3 main_v9
  let main_c_3 : IVec S_ 1 := constantI S_ 1 1#1
  let main_v11 : IVec S_ 1 := (fun x v => Host.reduce IntOp.andi x v reducesTo_S1x1x2048x2048_S_d0_1_2_3 h_S_) main_v10 main_c_3
  let main_v12 : IVec S_ 1 := andi main_v8 main_v11
  let main_cst_4 : FVec F S_ .f32 := constant S_ .f32 0x00000000#32
  let main_v13 : FVec F S1x1x2048x1 .f32 := broadcastInDim S1x1x2048x1 ![] bcast_S_S1x1x2048x1 main_cst_4
  let main_v14 : IVec S1x1x2048x1 1 := cmpf .une main_arg4 main_v13
  let main_c_5 : IVec S_ 1 := constantI S_ 1 1#1
  let main_v15 : IVec S_ 1 := (fun x v => Host.reduce IntOp.andi x v reducesTo_S1x1x2048x1_S_d0_1_2_3 h_S_) main_v14 main_c_5
  fn_part1 (F := F) main_arg5 main_arg8 main_v12 main_v15
-- ==== Kernel.lean ====
abbrev S1x12x2048x64 : Shape := ⟨4, ![1, 12, 2048, 64]⟩
abbrev S1x1x2048x2048 : Shape := ⟨4, ![1, 1, 2048, 2048]⟩
abbrev S1x1x2048x1 : Shape := ⟨4, ![1, 1, 2048, 1]⟩
abbrev S1x1x1x2048 : Shape := ⟨4, ![1, 1, 1, 2048]⟩
abbrev S1x32x64 : Shape := ⟨3, ![1, 32, 64]⟩
abbrev S12x30x3 : Shape := ⟨3, ![12, 30, 3]⟩
abbrev S32x32 : Shape := ⟨2, ![32, 32]⟩
abbrev S_ : Shape := ⟨0, ![]⟩
abbrev S12x28x3 : Shape := ⟨3, ![12, 28, 3]⟩
abbrev S28x12x3 : Shape := ⟨3, ![28, 12, 3]⟩
abbrev S28x36 : Shape := ⟨2, ![28, 36]⟩
abbrev S28x36x1 : Shape := ⟨3, ![28, 36, 1]⟩
abbrev S1x1x32 : Shape := ⟨3, ![1, 1, 32]⟩
abbrev S28x36x32 : Shape := ⟨3, ![28, 36, 32]⟩
abbrev S28x32 : Shape := ⟨2, ![28, 32]⟩
abbrev S32x32x64 : Shape := ⟨3, ![32, 32, 64]⟩
abbrev S32x2048 : Shape := ⟨2, ![32, 2048]⟩
abbrev S1x32x2048 : Shape := ⟨3, ![1, 32, 2048]⟩
abbrev S12x2048x64 : Shape := ⟨3, ![12, 2048, 64]⟩
abbrev S1x1x2048x64 : Shape := ⟨4, ![1, 1, 2048, 64]⟩
abbrev S1x2048x64 : Shape := ⟨3, ![1, 2048, 64]⟩
abbrev S2048x64 : Shape := ⟨2, ![2048, 64]⟩
abbrev S2048x128 : Shape := ⟨2, ![2048, 128]⟩
abbrev S2048x2048 : Shape := ⟨2, ![2048, 2048]⟩
abbrev S32x64x2048 : Shape := ⟨3, ![32, 64, 2048]⟩
abbrev S32x1x2048 : Shape := ⟨3, ![32, 1, 2048]⟩
abbrev S2048x1 : Shape := ⟨2, ![2048, 1]⟩
abbrev S2048x12x64 : Shape := ⟨3, ![2048, 12, 64]⟩
abbrev S1x2048x12x64 : Shape := ⟨4, ![1, 2048, 12, 64]⟩

abbrev nBuf : Space → Nat
  | .hbm => 50
  | .vmem => 11
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x1x2048x2048, .f32⟩
  | .hbm, ⟨4, _⟩ => ⟨S1x1x2048x1, .f32⟩
  | .hbm, ⟨5, _⟩ => ⟨S1x1x1x2048, .f32⟩
  | .hbm, ⟨6, _⟩ => ⟨S1x32x64, .f32⟩
  | .hbm, ⟨7, _⟩ => ⟨S1x32x64, .f32⟩
  | .hbm, ⟨8, _⟩ => ⟨S12x30x3, .i32⟩
  | .hbm, ⟨9, _⟩ => ⟨S32x32, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S12x30x3, .i32⟩
  | .hbm, ⟨14, _⟩ => ⟨S12x30x3, .i32⟩
  | .hbm, ⟨15, _⟩ => ⟨S_, .i32⟩
  | .hbm, ⟨16, _⟩ => ⟨S12x30x3, .i32⟩
  | .hbm, ⟨17, _⟩ => ⟨S12x30x3, .i32⟩
  | .hbm, ⟨18, _⟩ => ⟨S12x28x3, .i32⟩
  | .hbm, ⟨19, _⟩ => ⟨S28x12x3, .i32⟩
  | .hbm, ⟨20, _⟩ => ⟨S28x36, .i32⟩
  | .hbm, ⟨21, _⟩ => ⟨S28x36x1, .i32⟩
  | .hbm, ⟨22, _⟩ => ⟨S1x1x32, .i32⟩
  | .hbm, ⟨23, _⟩ => ⟨S28x36x32, .i32⟩
  | .hbm, ⟨24, _⟩ => ⟨S28x36x32, .i32⟩
  | .hbm, ⟨25, _⟩ => ⟨S28x36x32, .i1⟩
  | .hbm, ⟨26, _⟩ => ⟨S28x36x32, .f32⟩
  | .hbm, ⟨27, _⟩ => ⟨S_, .f32⟩
  | .hbm, ⟨28, _⟩ => ⟨S28x32, .f32⟩
  | .hbm, ⟨29, _⟩ => ⟨S_, .i32⟩
  | .hbm, ⟨30, _⟩ => ⟨S_, .f32⟩
  | .hbm, ⟨31, _⟩ => ⟨S32x32, .f32⟩
  | .hbm, ⟨32, _⟩ => ⟨S32x32, .f32⟩
  | .hbm, ⟨33, _⟩ => ⟨S_, .f32⟩
  | .hbm, ⟨34, _⟩ => ⟨S32x32, .f32⟩
  | .hbm, ⟨35, _⟩ => ⟨S32x32, .i1⟩
  | .hbm, ⟨36, _⟩ => ⟨S_, .f32⟩
  | .hbm, ⟨37, _⟩ => ⟨S32x32, .f32⟩
  | .hbm, ⟨38, _⟩ => ⟨S32x32, .f32⟩
  | .hbm, ⟨39, _⟩ => ⟨S32x32, .f32⟩
  | .hbm, ⟨40, _⟩ => ⟨S_, .f32⟩
  | .hbm, ⟨41, _⟩ => ⟨S_, .f32⟩
  | .hbm, ⟨42, _⟩ => ⟨S32x32, .f32⟩
  | .hbm, ⟨43, _⟩ => ⟨S32x32, .f32⟩
  | .hbm, ⟨44, _⟩ => ⟨S32x32x64, .f32⟩
  | .hbm, ⟨45, _⟩ => ⟨S32x2048, .f32⟩
  | .hbm, ⟨46, _⟩ => ⟨S1x32x2048, .f32⟩
  | .hbm, ⟨47, _⟩ => ⟨S12x2048x64, .f32⟩
  | .hbm, ⟨48, _⟩ => ⟨S2048x12x64, .f32⟩
  | .hbm, ⟨49, _⟩ => ⟨S1x2048x12x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x32x2048, .f32⟩
  | .local _ .vmem, ⟨7, _⟩ => ⟨S1x2048x64, .f32⟩
  | .local _ .vmem, ⟨8, _⟩ => ⟨S1x2048x64, .f32⟩
  | .local _ .vmem, ⟨9, _⟩ => ⟨S2048x64, .bf16⟩
  | .local _ .vmem, ⟨10, _⟩ => ⟨S2048x128, .bf16⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_c_2 : Ref sig .tc := ⟨.hbm, 29, rfl⟩
abbrev main_call2_v0 : Ref sig .tc := ⟨.hbm, 30, rfl⟩
abbrev main_v6 : Ref sig .tc := ⟨.hbm, 31, rfl⟩
abbrev main_v7 : Ref sig .tc := ⟨.hbm, 32, rfl⟩
abbrev main_cst_3 : Ref sig .tc := ⟨.hbm, 33, rfl⟩
abbrev main_v8 : Ref sig .tc := ⟨.hbm, 34, rfl⟩
abbrev main_v9 : Ref sig .tc := ⟨.hbm, 35, rfl⟩
abbrev main_cst_4 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_5 : Ref sig .tc := ⟨.hbm, 40, rfl⟩
abbrev main_call3_v0 : Ref sig .tc := ⟨.hbm, 41, rfl⟩
abbrev main_call3_v1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 1], ![false, false]⟩

def k0_off1 (i : grid0.Coords) : Fin 3 → Nat :=
  let arg1 : BitVec 32 := BitVec.ofNat 32 (i 1).val
  let v11 : Index := Scalar.indexCast arg1
  let c0_7 : Index := 0#32
  let c0_8 : Index := 0#32
  ![v11.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x12x2048x64 : Shape := ⟨4, ![1, 12, 2048, 64]⟩
abbrev S1x1x2048x2048 : Shape := ⟨4, ![1, 1, 2048, 2048]⟩
abbrev S1x1x2048x1 : Shape := ⟨4, ![1, 1, 2048, 1]⟩
abbrev S1x1x1x2048 : Shape := ⟨4, ![1, 1, 1, 2048]⟩
abbrev S1x32x64 : Shape := ⟨3, ![1, 32, 64]⟩
abbrev S12x30x3 : Shape := ⟨3, ![12, 30, 3]⟩
abbrev S1x12x32x64x64 : Shape := ⟨5, ![1, 12, 32, 64, 64]⟩
abbrev S12x28x3 : Shape := ⟨3, ![12, 28, 3]⟩
abbrev S_ : Shape := ⟨0, ![]⟩
abbrev S28 : Shape := ⟨1, ![28]⟩
abbrev S1x1x32x64x32x64 : Shape := ⟨6, ![1, 1, 32, 64, 32, 64]⟩
abbrev S1x1x32x32x64x64 : Shape := ⟨6, ![1, 1, 32, 32, 64, 64]⟩
abbrev S28x1 : Shape := ⟨2, ![28, 1]⟩
abbrev S28x2 : Shape := ⟨2, ![28, 2]⟩
abbrev S1x1x28x64x64 : Shape := ⟨5, ![1, 1, 28, 64, 64]⟩
abbrev S1x1x28x64x192 : Shape := ⟨5, ![1, 1, 28, 64, 192]⟩
abbrev S1x1x28x64x2432 : Shape := ⟨5, ![1, 1, 28, 64, 2432]⟩
abbrev S1x1x28x64x2624 : Shape := ⟨5, ![1, 1, 28, 64, 2624]⟩
abbrev S1x12x28x64x64 : Shape := ⟨5, ![1, 12, 28, 64, 64]⟩
abbrev S1x12x28x192x64 : Shape := ⟨5, ![1, 12, 28, 192, 64]⟩
abbrev S1x12x1x64x64 : Shape := ⟨5, ![1, 12, 1, 64, 64]⟩
abbrev S1x12x64x64 : Shape := ⟨4, ![1, 12, 64, 64]⟩
abbrev S1x12x128x64 : Shape := ⟨4, ![1, 12, 128, 64]⟩
abbrev S1x12x1x128x64 : Shape := ⟨5, ![1, 12, 1, 128, 64]⟩
abbrev S1x12x28x128x64 : Shape := ⟨5, ![1, 12, 28, 128, 64]⟩
abbrev S12x28x3x1 : Shape := ⟨4, ![12, 28, 3, 1]⟩
abbrev S1x12x12x28x3x64x64 : Shape := ⟨7, ![1, 12, 12, 28, 3, 64, 64]⟩
abbrev S1x1x12x28x3x1x1 : Shape := ⟨7, ![1, 1, 12, 28, 3, 1, 1]⟩
abbrev S1x12x28x12x3x64x64 : Shape := ⟨7, ![1, 12, 28, 12, 3, 64, 64]⟩
abbrev S1x12x28x2304x64 : Shape := ⟨5, ![1, 12, 28, 2304, 64]⟩
abbrev S1x12x28x2624x64 : Shape := ⟨5, ![1, 12, 28, 2624, 64]⟩
abbrev S1x12x28x64x2624 : Shape := ⟨5, ![1, 12, 28, 64, 2624]⟩
abbrev S1x12x28x64 : Shape := ⟨4, ![1, 12, 28, 64]⟩
abbrev S1x12x28x64x1 : Shape := ⟨5, ![1, 12, 28, 64, 1]⟩
abbrev S1x1x64x1 : Shape := ⟨4, ![1, 1, 64, 1]⟩
abbrev S1x1x1x128 : Shape := ⟨4, ![1, 1, 1, 128]⟩
abbrev S1x1x64x128 : Shape := ⟨4, ![1, 1, 64, 128]⟩
abbrev S1x12x64x128 : Shape := ⟨4, ![1, 12, 64, 128]⟩
abbrev S1x12x64 : Shape := ⟨3, ![1, 12, 64]⟩
abbrev S1x12x64x1 : Shape := ⟨4, ![1, 12, 64, 1]⟩
abbrev S1x12x192x64 : Shape := ⟨4, ![1, 12, 192, 64]⟩
abbrev S1x1x1x192 : Shape := ⟨4, ![1, 1, 1, 192]⟩
abbrev S1x1x64x192 : Shape := ⟨4, ![1, 1, 64, 192]⟩
abbrev S1x12x64x192 : Shape := ⟨4, ![1, 12, 64, 192]⟩
abbrev S1x2048x12x64 : Shape := ⟨4, ![1, 2048, 12, 64]⟩

abbrev nBuf : Space → Nat
  | .hbm => 374
  | .vmem => 0
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S1x1x2048x2048, .f32⟩
  | 4 => ⟨S1x1x2048x1, .f32⟩
  | 5 => ⟨S1x1x1x2048, .f32⟩
  | 6 => ⟨S1x32x64, .f32⟩
  | 7 => ⟨S1x32x64, .f32⟩
  | 8 => ⟨S12x30x3, .i32⟩
  | 9 => ⟨S1x12x32x64x64, .f32⟩
  | 10 => ⟨S1x12x32x64x64, .f32⟩
  | 11 => ⟨S1x12x32x64x64, .f32⟩
  | 12 => ⟨S12x28x3, .i32⟩
  | 13 => ⟨S_, .i32⟩
  | 14 => ⟨S12x28x3, .i32⟩
  | 15 => ⟨S12x28x3, .i1⟩
  | 16 => ⟨S_, .i32⟩
  | 17 => ⟨S12x28x3, .i32⟩
  | 18 => ⟨S12x28x3, .i1⟩
  | 19 => ⟨S12x28x3, .i1⟩
  | 20 => ⟨S_, .i32⟩
  | 21 => ⟨S_, .i32⟩
  | 22 => ⟨S_, .i32⟩
  | 23 => ⟨S12x28x3, .i32⟩
  | 24 => ⟨S12x28x3, .i32⟩
  | 25 => ⟨S_, .i32⟩
  | 26 => ⟨S12x28x3, .i32⟩
  | 27 => ⟨S12x28x3, .i32⟩
  | 28 => ⟨S28, .i32⟩
  | 29 => ⟨S_, .i32⟩
  | 30 => ⟨S28, .i32⟩
  | 31 => ⟨S28, .i32⟩
  | 32 => ⟨S1x1x32x64x32x64, .f32⟩
  | 33 => ⟨S1x1x32x32x64x64, .f32⟩
  | 34 => ⟨S_, .i32⟩
  | 35 => ⟨S28, .i32⟩
  | 36 => ⟨S28, .i32⟩
  | 37 => ⟨S_, .i32⟩
  | 38 => ⟨S28, .i32⟩
  | 39 => ⟨S28, .i1⟩
  | 40 => ⟨S_, .i32⟩
  | 41 => ⟨S28, .i32⟩
  | 42 => ⟨S28, .i32⟩
  | 43 => ⟨S28, .i32⟩
  | 44 => ⟨S_, .i32⟩
  | 45 => ⟨S28, .i32⟩
  | 46 => ⟨S28, .i1⟩
  | 47 => ⟨S_, .i32⟩
  | 48 => ⟨S28, .i32⟩
  | 49 => ⟨S28, .i32⟩
  | 50 => ⟨S28, .i32⟩
  | 51 => ⟨S28x1, .i32⟩
  | 52 => ⟨S28x1, .i32⟩
  | 53 => ⟨S28x2, .i32⟩
  | 54 => ⟨S1x1x28x64x64, .f32⟩
  | 55 => ⟨S_, .i32⟩
  | 56 => ⟨S28, .i32⟩
  | 57 => ⟨S28, .i32⟩
  | 58 => ⟨S_, .i32⟩
  | 59 => ⟨S28, .i32⟩
  | 60 => ⟨S28, .i1⟩
  | 61 => ⟨S_, .i32⟩
  | 62 => ⟨S28, .i32⟩
  | 63 => ⟨S28, .i32⟩
  | 64 => ⟨S28, .i32⟩
  | 65 => ⟨S_, .i32⟩
  | 66 => ⟨S28, .i32⟩
  | 67 => ⟨S28, .i1⟩
  | 68 => ⟨S_, .i32⟩
  | 69 => ⟨S28, .i32⟩
  | 70 => ⟨S28, .i32⟩
  | 71 => ⟨S28, .i32⟩
  | 72 => ⟨S28x1, .i32⟩
  | 73 => ⟨S28x1, .i32⟩
  | 74 => ⟨S28x2, .i32⟩
  | 75 => ⟨S1x1x28x64x64, .f32⟩
  | 76 => ⟨S_, .i32⟩
  | 77 => ⟨S28, .i32⟩
  | 78 => ⟨S28, .i32⟩
  | 79 => ⟨S_, .i32⟩
  | 80 => ⟨S28, .i32⟩
  | 81 => ⟨S28, .i1⟩
  | 82 => ⟨S_, .i32⟩
  | 83 => ⟨S28, .i32⟩
  | 84 => ⟨S28, .i32⟩
  | 85 => ⟨S28, .i32⟩
  | 86 => ⟨S_, .i32⟩
  | 87 => ⟨S28, .i32⟩
  | 88 => ⟨S28, .i1⟩
  | 89 => ⟨S_, .i32⟩
  | 90 => ⟨S28, .i32⟩
  | 91 => ⟨S28, .i32⟩
  | 92 => ⟨S28, .i32⟩
  | 93 => ⟨S28x1, .i32⟩
  | 94 => ⟨S28x1, .i32⟩
  | 95 => ⟨S28x2, .i32⟩
  | 96 => ⟨S1x1x28x64x64, .f32⟩
  | 97 => ⟨S1x1x28x64x192, .f32⟩
  | 98 => ⟨S_, .f32⟩
  | 99 => ⟨S1x1x28x64x192, .f32⟩
  | 100 => ⟨S1x1x28x64x192, .i1⟩
  | 101 => ⟨S_, .i1⟩
  | 102 => ⟨S1x1x28x64x2432, .i1⟩
  | 103 => ⟨S1x1x28x64x2624, .i1⟩
  | 104 => ⟨S1x12x28x64x64, .f32⟩
  | 105 => ⟨S1x12x28x64x64, .f32⟩
  | 106 => ⟨S1x12x28x64x64, .f32⟩
  | 107 => ⟨S1x12x28x64x64, .f32⟩
  | 108 => ⟨S1x12x28x192x64, .f32⟩
  | 109 => ⟨S1x12x1x64x64, .f32⟩
  | 110 => ⟨S1x12x64x64, .f32⟩
  | 111 => ⟨S1x12x1x64x64, .f32⟩
  | 112 => ⟨S1x12x64x64, .f32⟩
  | 113 => ⟨S1x12x128x64, .f32⟩
  | 114 => ⟨S1x12x1x128x64, .f32⟩
  | 115 => ⟨S1x12x28x128x64, .f32⟩
  | 116 => ⟨S_, .i32⟩
  | 117 => ⟨S12x28x3, .i32⟩
  | 118 => ⟨S12x28x3, .i1⟩
  | 119 => ⟨S_, .i32⟩
  | 120 => ⟨S12x28x3, .i32⟩
  | 121 => ⟨S12x28x3, .i32⟩
  | 122 => ⟨S12x28x3, .i32⟩
  | 123 => ⟨S12x28x3x1, .i32⟩
  | 124 => ⟨S1x12x12x28x3x64x64, .f32⟩
  | 125 => ⟨S1x1x12x28x3x1x1, .i1⟩
  | 126 => ⟨S1x1x12x28x3x1x1, .f32⟩
  | 127 => ⟨S1x12x12x28x3x64x64, .f32⟩
  | _ => ⟨S1x12x2048x64, .f32⟩

abbrev hbmTy0_1 (i : Nat) : BufTy := match i % 128 with
  | 0 => ⟨S1x12x12x28x3x64x64, .f32⟩
  | 1 => ⟨S1x12x28x12x3x64x64, .f32⟩
  | 2 => ⟨S1x12x28x2304x64, .f32⟩
  | 3 => ⟨S1x12x28x2624x64, .f32⟩
  | 4 => ⟨S1x12x28x64x64, .f32⟩
  | 5 => ⟨S1x12x28x64x64, .f32⟩
  | 6 => ⟨S1x12x28x64x64, .f32⟩
  | 7 => ⟨S1x12x28x192x64, .f32⟩
  | 8 => ⟨S1x12x1x64x64, .f32⟩
  | 9 => ⟨S1x12x64x64, .f32⟩
  | 10 => ⟨S1x12x1x64x64, .f32⟩
  | 11 => ⟨S1x12x64x64, .f32⟩
  | 12 => ⟨S1x12x128x64, .f32⟩
  | 13 => ⟨S1x12x1x128x64, .f32⟩
  | 14 => ⟨S1x12x28x128x64, .f32⟩
  | 15 => ⟨S_, .i32⟩
  | 16 => ⟨S12x28x3, .i32⟩
  | 17 => ⟨S12x28x3, .i1⟩
  | 18 => ⟨S_, .i32⟩
  | 19 => ⟨S12x28x3, .i32⟩
  | 20 => ⟨S12x28x3, .i32⟩
  | 21 => ⟨S12x28x3, .i32⟩
  | 22 => ⟨S12x28x3x1, .i32⟩
  | 23 => ⟨S1x12x12x28x3x64x64, .f32⟩
  | 24 => ⟨S1x1x12x28x3x1x1, .i1⟩
  | 25 => ⟨S1x1x12x28x3x1x1, .f32⟩
  | 26 => ⟨S1x12x12x28x3x64x64, .f32⟩
  | 27 => ⟨S1x12x12x28x3x64x64, .f32⟩
  | 28 => ⟨S1x12x28x12x3x64x64, .f32⟩
  | 29 => ⟨S1x12x28x2304x64, .f32⟩
  | 30 => ⟨S1x12x28x2624x64, .f32⟩
  | 31 => ⟨S1x12x28x64x2624, .f32⟩
  | 32 => ⟨S_, .f32⟩
  | 33 => ⟨S1x12x28x64x2624, .f32⟩
  | 34 => ⟨S1x12x28x64x2624, .f32⟩
  | 35 => ⟨S_, .f32⟩
  | 36 => ⟨S_, .f32⟩
  | 37 => ⟨S1x12x28x64x2624, .i1⟩
  | 38 => ⟨S1x12x28x64x2624, .f32⟩
  | 39 => ⟨S1x12x28x64x2624, .f32⟩
  | 40 => ⟨S_, .f32⟩
  | 41 => ⟨S1x12x28x64, .f32⟩
  | 42 => ⟨S_, .f32⟩
  | 43 => ⟨S1x12x28x64, .f32⟩
  | 44 => ⟨S1x12x28x64, .f32⟩
  | 45 => ⟨S1x12x28x64x1, .f32⟩
  | 46 => ⟨S1x12x28x64x2624, .f32⟩
  | 47 => ⟨S1x12x28x64x2624, .f32⟩
  | 48 => ⟨S1x12x28x64x2624, .f32⟩
  | 49 => ⟨S_, .f32⟩
  | 50 => ⟨S1x12x28x64, .f32⟩
  | 51 => ⟨S1x12x28x64x1, .f32⟩
  | 52 => ⟨S1x12x28x64x2624, .f32⟩
  | 53 => ⟨S1x12x28x64x2624, .f32⟩
  | 54 => ⟨S1x12x28x64x64, .f32⟩
  | 55 => ⟨S1x12x1x64x64, .f32⟩
  | 56 => ⟨S1x12x64x64, .f32⟩
  | 57 => ⟨S1x12x1x64x64, .f32⟩
  | 58 => ⟨S1x12x64x64, .f32⟩
  | 59 => ⟨S1x12x128x64, .f32⟩
  | 60 => ⟨S1x12x1x64x64, .f32⟩
  | 61 => ⟨S1x12x64x64, .f32⟩
  | 62 => ⟨S1x12x1x64x64, .f32⟩
  | 63 => ⟨S1x12x64x64, .f32⟩
  | 64 => ⟨S1x12x128x64, .f32⟩
  | 65 => ⟨S1x1x64x1, .f32⟩
  | 66 => ⟨S1x1x1x128, .f32⟩
  | 67 => ⟨S1x1x64x128, .f32⟩
  | 68 => ⟨S1x1x64x128, .f32⟩
  | 69 => ⟨S1x1x64x128, .f32⟩
  | 70 => ⟨S1x12x1x64x64, .f32⟩
  | 71 => ⟨S1x12x64x64, .f32⟩
  | 72 => ⟨S_, .f32⟩
  | 73 => ⟨S1x1x64x128, .f32⟩
  | 74 => ⟨S1x1x64x128, .i1⟩
  | 75 => ⟨S1x12x64x128, .f32⟩
  | 76 => ⟨S_, .f32⟩
  | 77 => ⟨S1x12x64x128, .f32⟩
  | 78 => ⟨S1x12x64x128, .f32⟩
  | 79 => ⟨S_, .f32⟩
  | 80 => ⟨S_, .f32⟩
  | 81 => ⟨S1x12x64x128, .i1⟩
  | 82 => ⟨S1x12x64x128, .f32⟩
  | 83 => ⟨S1x12x64x128, .f32⟩
  | 84 => ⟨S_, .f32⟩
  | 85 => ⟨S1x12x64, .f32⟩
  | 86 => ⟨S_, .f32⟩
  | 87 => ⟨S1x12x64, .f32⟩
  | 88 => ⟨S1x12x64, .f32⟩
  | 89 => ⟨S1x12x64x1, .f32⟩
  | 90 => ⟨S1x12x64x128, .f32⟩
  | 91 => ⟨S1x12x64x128, .f32⟩
  | 92 => ⟨S1x12x64x128, .f32⟩
  | 93 => ⟨S_, .f32⟩
  | 94 => ⟨S1x12x64, .f32⟩
  | 95 => ⟨S1x12x64x1, .f32⟩
  | 96 => ⟨S1x12x64x128, .f32⟩
  | 97 => ⟨S1x12x64x128, .f32⟩
  | 98 => ⟨S1x12x64x64, .f32⟩
  | 99 => ⟨S1x12x1x64x64, .f32⟩
  | 100 => ⟨S1x12x1x64x64, .f32⟩
  | 101 => ⟨S1x12x64x64, .f32⟩
  | 102 => ⟨S1x12x1x64x64, .f32⟩
  | 103 => ⟨S1x12x64x64, .f32⟩
  | 104 => ⟨S1x12x1x64x64, .f32⟩
  | 105 => ⟨S1x12x64x64, .f32⟩
  | 106 => ⟨S1x12x192x64, .f32⟩
  | 107 => ⟨S1x12x1x64x64, .f32⟩
  | 108 => ⟨S1x12x64x64, .f32⟩
  | 109 => ⟨S1x12x1x64x64, .f32⟩
  | 110 => ⟨S1x12x64x64, .f32⟩
  | 111 => ⟨S1x12x1x64x64, .f32⟩
  | 112 => ⟨S1x12x64x64, .f32⟩
  | 113 => ⟨S1x12x192x64, .f32⟩
  | 114 => ⟨S1x1x64x1, .f32⟩
  | 115 => ⟨S1x1x1x192, .f32⟩
  | 116 => ⟨S1x1x64x192, .f32⟩
  | 117 => ⟨S1x1x64x192, .f32⟩
  | 118 => ⟨S1x1x64x192, .f32⟩
  | 119 => ⟨S1x12x1x64x64, .f32⟩
  | 120 => ⟨S1x12x64x64, .f32⟩
  | 121 => ⟨S_, .f32⟩
  | 122 => ⟨S1x1x64x192, .f32⟩
  | 123 => ⟨S1x1x64x192, .i1⟩
  | 124 => ⟨S1x12x64x192, .f32⟩
  | 125 => ⟨S_, .f32⟩
  | 126 => ⟨S1x12x64x192, .f32⟩
  | 127 => ⟨S1x12x64x192, .f32⟩
  | _ => ⟨S1x12x2048x64, .f32⟩

abbrev hbmTy0_2 (i : Nat) : BufTy := match i % 128 with
  | 0 => ⟨S_, .f32⟩
  | 1 => ⟨S_, .f32⟩
  | 2 => ⟨S1x12x64x192, .i1⟩
  | 3 => ⟨S1x12x64x192, .f32⟩
  | 4 => ⟨S1x12x64x192, .f32⟩
  | 5 => ⟨S_, .f32⟩
  | 6 => ⟨S1x12x64, .f32⟩
  | 7 => ⟨S_, .f32⟩
  | 8 => ⟨S1x12x64, .f32⟩
  | 9 => ⟨S1x12x64, .f32⟩
  | 10 => ⟨S1x12x64x1, .f32⟩
  | 11 => ⟨S1x12x64x192, .f32⟩
  | 12 => ⟨S1x12x64x192, .f32⟩
  | 13 => ⟨S1x12x64x192, .f32⟩
  | 14 => ⟨S_, .f32⟩
  | 15 => ⟨S1x12x64, .f32⟩
  | 16 => ⟨S1x12x64x1, .f32⟩
  | 17 => ⟨S1x12x64x192, .f32⟩
  | 18 => ⟨S1x12x64x192, .f32⟩
  | 19 => ⟨S1x12x64x64, .f32⟩
  | 20 => ⟨S1x12x1x64x64, .f32⟩
  | 21 => ⟨S1x12x1x64x64, .f32⟩
  | 22 => ⟨S1x12x64x64, .f32⟩
  | 23 => ⟨S1x12x1x64x64, .f32⟩
  | 24 => ⟨S1x12x64x64, .f32⟩
  | 25 => ⟨S1x12x1x64x64, .f32⟩
  | 26 => ⟨S1x12x64x64, .f32⟩
  | 27 => ⟨S1x12x192x64, .f32⟩
  | 28 => ⟨S1x12x1x64x64, .f32⟩
  | 29 => ⟨S1x12x64x64, .f32⟩
  | 30 => ⟨S1x12x1x64x64, .f32⟩
  | 31 => ⟨S1x12x64x64, .f32⟩
  | 32 => ⟨S1x12x1x64x64, .f32⟩
  | 33 => ⟨S1x12x64x64, .f32⟩
  | 34 => ⟨S1x12x192x64, .f32⟩
  | 35 => ⟨S1x1x64x1, .f32⟩
  | 36 => ⟨S1x1x1x192, .f32⟩
  | 37 => ⟨S1x1x64x192, .f32⟩
  | 38 => ⟨S1x1x64x192, .f32⟩
  | 39 => ⟨S1x1x64x192, .f32⟩
  | 40 => ⟨S1x12x1x64x64, .f32⟩
  | 41 => ⟨S1x12x64x64, .f32⟩
  | 42 => ⟨S_, .f32⟩
  | 43 => ⟨S1x1x64x192, .f32⟩
  | 44 => ⟨S1x1x64x192, .i1⟩
  | 45 => ⟨S1x12x64x192, .f32⟩
  | 46 => ⟨S_, .f32⟩
  | 47 => ⟨S1x12x64x192, .f32⟩
  | 48 => ⟨S1x12x64x192, .f32⟩
  | 49 => ⟨S_, .f32⟩
  | 50 => ⟨S_, .f32⟩
  | 51 => ⟨S1x12x64x192, .i1⟩
  | 52 => ⟨S1x12x64x192, .f32⟩
  | 53 => ⟨S1x12x64x192, .f32⟩
  | 54 => ⟨S_, .f32⟩
  | 55 => ⟨S1x12x64, .f32⟩
  | 56 => ⟨S_, .f32⟩
  | 57 => ⟨S1x12x64, .f32⟩
  | 58 => ⟨S1x12x64, .f32⟩
  | 59 => ⟨S1x12x64x1, .f32⟩
  | 60 => ⟨S1x12x64x192, .f32⟩
  | 61 => ⟨S1x12x64x192, .f32⟩
  | 62 => ⟨S1x12x64x192, .f32⟩
  | 63 => ⟨S_, .f32⟩
  | 64 => ⟨S1x12x64, .f32⟩
  | 65 => ⟨S1x12x64x1, .f32⟩
  | 66 => ⟨S1x12x64x192, .f32⟩
  | 67 => ⟨S1x12x64x192, .f32⟩
  | 68 => ⟨S1x12x64x64, .f32⟩
  | 69 => ⟨S1x12x1x64x64, .f32⟩
  | 70 => ⟨S1x12x1x64x64, .f32⟩
  | 71 => ⟨S1x12x64x64, .f32⟩
  | 72 => ⟨S1x12x1x64x64, .f32⟩
  | 73 => ⟨S1x12x64x64, .f32⟩
  | 74 => ⟨S1x12x128x64, .f32⟩
  | 75 => ⟨S1x12x1x64x64, .f32⟩
  | 76 => ⟨S1x12x64x64, .f32⟩
  | 77 => ⟨S1x12x1x64x64, .f32⟩
  | 78 => ⟨S1x12x64x64, .f32⟩
  | 79 => ⟨S1x12x128x64, .f32⟩
  | 80 => ⟨S1x1x64x1, .f32⟩
  | 81 => ⟨S1x1x1x128, .f32⟩
  | 82 => ⟨S1x1x64x128, .f32⟩
  | 83 => ⟨S1x1x64x128, .f32⟩
  | 84 => ⟨S1x1x64x128, .f32⟩
  | 85 => ⟨S1x12x1x64x64, .f32⟩
  | 86 => ⟨S1x12x64x64, .f32⟩
  | 87 => ⟨S_, .f32⟩
  | 88 => ⟨S1x1x64x128, .f32⟩
  | 89 => ⟨S1x1x64x128, .i1⟩
  | 90 => ⟨S1x12x64x128, .f32⟩
  | 91 => ⟨S_, .f32⟩
  | 92 => ⟨S1x12x64x128, .f32⟩
  | 93 => ⟨S1x12x64x128, .f32⟩
  | 94 => ⟨S_, .f32⟩
  | 95 => ⟨S_, .f32⟩
  | 96 => ⟨S1x12x64x128, .i1⟩
  | 97 => ⟨S1x12x64x128, .f32⟩
  | 98 => ⟨S1x12x64x128, .f32⟩
  | 99 => ⟨S_, .f32⟩
  | 100 => ⟨S1x12x64, .f32⟩
  | 101 => ⟨S_, .f32⟩
  | 102 => ⟨S1x12x64, .f32⟩
  | 103 => ⟨S1x12x64, .f32⟩
  | 104 => ⟨S1x12x64x1, .f32⟩
  | 105 => ⟨S1x12x64x128, .f32⟩
  | 106 => ⟨S1x12x64x128, .f32⟩
  | 107 => ⟨S1x12x64x128, .f32⟩
  | 108 => ⟨S_, .f32⟩
  | 109 => ⟨S1x12x64, .f32⟩
  | 110 => ⟨S1x12x64x1, .f32⟩
  | 111 => ⟨S1x12x64x128, .f32⟩
  | 112 => ⟨S1x12x64x128, .f32⟩
  | 113 => ⟨S1x12x64x64, .f32⟩
  | 114 => ⟨S1x12x1x64x64, .f32⟩
  | 115 => ⟨S1x12x32x64x64, .f32⟩
  | 116 => ⟨S1x12x2048x64, .f32⟩
  | 117 => ⟨S1x2048x12x64, .f32⟩
  | _ => ⟨S1x12x2048x64, .f32⟩

abbrev hbmTy (i : Nat) : BufTy := match i / 128 with
  | 0 => hbmTy0_0 i
  | 1 => hbmTy0_1 i
  | 2 => hbmTy0_2 i
  | _ => ⟨S1x12x2048x64, .f32⟩

abbrev bufTy : (tb : Table) → Fin (tcTables nBuf tb) → BufTy
  | .hbm, ⟨i, _⟩ => hbmTy i
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_c_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_12 : Ref sig .tc := ⟨.hbm, 65, rfl⟩
abbrev main_v38 : Ref sig .tc := ⟨.hbm, 66, rfl⟩
abbrev main_v39 : Ref sig .tc := ⟨.hbm, 67, rfl⟩
abbrev main_c_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_14 : Ref sig .tc := ⟨.hbm, 76, rfl⟩
abbrev main_v47 : Ref sig .tc := ⟨.hbm, 77, rfl⟩
abbrev main_v48 : Ref sig .tc := ⟨.hbm, 78, rfl⟩
abbrev main_c_15 : Ref sig .tc := ⟨.hbm, 79, rfl⟩
abbrev main_v49 : Ref sig .tc := ⟨.hbm, 80, rfl⟩
abbrev main_v50 : Ref sig .tc := ⟨.hbm, 81, rfl⟩
abbrev main_c_16 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_17 : Ref sig .tc := ⟨.hbm, 86, rfl⟩
abbrev main_v54 : Ref sig .tc := ⟨.hbm, 87, rfl⟩
abbrev main_v55 : Ref sig .tc := ⟨.hbm, 88, rfl⟩
abbrev main_c_18 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst : Ref sig .tc := ⟨.hbm, 98, rfl⟩
abbrev main_v64 : Ref sig .tc := ⟨.hbm, 99, rfl⟩
abbrev main_v65 : Ref sig .tc := ⟨.hbm, 100, rfl⟩
abbrev main_c_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_20 : Ref sig .tc := ⟨.hbm, 116, rfl⟩
abbrev main_v80 : Ref sig .tc := ⟨.hbm, 117, rfl⟩
abbrev main_v81 : Ref sig .tc := ⟨.hbm, 118, rfl⟩
abbrev main_c_21 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_22 : Ref sig .tc := ⟨.hbm, 143, rfl⟩
abbrev main_v105 : Ref sig .tc := ⟨.hbm, 144, rfl⟩
abbrev main_v106 : Ref sig .tc := ⟨.hbm, 145, rfl⟩
abbrev main_c_23 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_24 : Ref sig .tc := ⟨.hbm, 160, rfl⟩
abbrev main_v120 : Ref sig .tc := ⟨.hbm, 161, rfl⟩
abbrev main_v121 : Ref sig .tc := ⟨.hbm, 162, rfl⟩
abbrev main_cst_25 : Ref sig .tc := ⟨.hbm, 163, rfl⟩
abbrev main_call1_v0 : Ref sig .tc := ⟨.hbm, 164, rfl⟩
abbrev main_call1_v1 : Ref sig .tc := ⟨.hbm, 165, rfl⟩
abbrev main_call1_v2 : Ref sig .tc := ⟨.hbm, 166, rfl⟩
abbrev main_v122 : Ref sig .tc := ⟨.hbm, 167, rfl⟩
abbrev main_cst_26 : Ref sig .tc := ⟨.hbm, 168, rfl⟩
abbrev main_v123 : Ref sig .tc := ⟨.hbm, 169, rfl⟩
abbrev main_cst_27 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_28 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_29 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_30 : Ref sig .tc := ⟨.hbm, 204, rfl⟩
abbrev main_v155 : Ref sig .tc := ⟨.hbm, 205, rfl⟩
abbrev main_v156 : Ref sig .tc := ⟨.hbm, 206, rfl⟩
abbrev main_cst_31 : Ref sig .tc := ⟨.hbm, 207, rfl⟩
abbrev main_call2_v0 : Ref sig .tc := ⟨.hbm, 208, rfl⟩
abbrev main_call2_v1 : Ref sig .tc := ⟨.hbm, 209, rfl⟩
abbrev main_call2_v2 : Ref sig .tc := ⟨.hbm, 210, rfl⟩
abbrev main_v157 : Ref sig .tc := ⟨.hbm, 211, rfl⟩
abbrev main_cst_32 : Ref sig .tc := ⟨.hbm, 212, rfl⟩
abbrev main_v158 : Ref sig .tc := ⟨.hbm, 213, rfl⟩
abbrev main_cst_33 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_cst_34 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_cst_35 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_cst_36 : Ref sig .tc := ⟨.hbm, 253, rfl⟩
abbrev main_v195 : Ref sig .tc := ⟨.hbm, 254, rfl⟩
abbrev main_v196 : Ref sig .tc := ⟨.hbm, 255, rfl⟩
abbrev main_cst_37 : Ref sig .tc := ⟨.hbm, 256, rfl⟩
abbrev main_call3_v0 : Ref sig .tc := ⟨.hbm, 257, rfl⟩
abbrev main_call3_v1 : Ref sig .tc := ⟨.hbm, 258, rfl⟩
abbrev main_call3_v2 : Ref sig .tc := ⟨.hbm, 259, rfl⟩
abbrev main_v197 : Ref sig .tc := ⟨.hbm, 260, rfl⟩
abbrev main_cst_38 : Ref sig .tc := ⟨.hbm, 261, rfl⟩
abbrev main_v198 : Ref sig .tc := ⟨.hbm, 262, rfl⟩
abbrev main_cst_39 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_cst_40 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_cst_41 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_cst_42 : Ref sig .tc := ⟨.hbm, 302, rfl⟩
abbrev main_v235 : Ref sig .tc := ⟨.hbm, 303, rfl⟩
abbrev main_v236 : Ref sig .tc := ⟨.hbm, 304, rfl⟩
abbrev main_cst_43 : Ref sig .tc := ⟨.hbm, 305, rfl⟩
abbrev main_call4_v0 : Ref sig .tc := ⟨.hbm, 306, rfl⟩
abbrev main_call4_v1 : Ref sig .tc := ⟨.hbm, 307, rfl⟩
abbrev main_call4_v2 : Ref sig .tc := ⟨.hbm, 308, rfl⟩
abbrev main_v237 : Ref sig .tc := ⟨.hbm, 309, rfl⟩
abbrev main_cst_44 : Ref sig .tc := ⟨.hbm, 310, rfl⟩
abbrev main_v238 : Ref sig .tc := ⟨.hbm, 311, rfl⟩
abbrev main_cst_45 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_cst_46 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_cst_47 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_cst_48 : Ref sig .tc := ⟨.hbm, 347, rfl⟩
abbrev main_v271 : Ref sig .tc := ⟨.hbm, 348, rfl⟩
abbrev main_v272 : Ref sig .tc := ⟨.hbm, 349, rfl⟩
abbrev main_cst_49 : Ref sig .tc := ⟨.hbm, 350, rfl⟩
abbrev main_call5_v0 : Ref sig .tc := ⟨.hbm, 351, rfl⟩
abbrev main_call5_v1 : Ref sig .tc := ⟨.hbm, 352, rfl⟩
abbrev main_call5_v2 : Ref sig .tc := ⟨.hbm, 353, rfl⟩
abbrev main_v273 : Ref sig .tc := ⟨.hbm, 354, rfl⟩
abbrev main_cst_50 : Ref sig .tc := ⟨.hbm, 355, rfl⟩
abbrev main_v274 : Ref sig .tc := ⟨.hbm, 356, rfl⟩
abbrev main_cst_51 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_cst_52 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩

abbrev nD : Nat := 1
abbrev τ : Topo := Topo.v7x

variable {F : FTy → Type} [FloatOps F]
-- ==== Proof.KernelValue.lean ====
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic

/-- The score of query `n` against key `t`, the query scaled first. -/
def kscore (q k : Vec Ideal S1x1x2048x64 .f32) (n t : Fin 2048) : EReal :=
  ∑ e : Fin 64, q (ix4 0 0 n e) * Ideal.ofBits .f32 0x3E000000#32 * k (ix4 0 0 t e)

/-- The body's formula at an index. -/
theorem pay4_apply (q k : Vec Ideal S1x1x2048x64 .f32) (lc : Vec Ideal S1x32x2048 .f32) (vb : Vec Ideal S2048x128 .bf16)
    (n : Fin 2048) (d : Fin 64) :
    k0_pay4 q (k0_pay1 k) lc vb (ix3 0 n d)
      = Ideal.div (∑ t : Fin 2048, Ideal.exp (kscore q k n t + lc (ix3 0 ⟨↑n / 64, by omega⟩ t)) * vb (ix2 t ⟨↑d, by omega⟩))
          (∑ t : Fin 2048, Ideal.exp (kscore q k n t + lc (ix3 0 ⟨↑n / 64, by omega⟩ t)) * vb (ix2 t 64)) := by
  pointwise [k0_pay4, k0_pay1, kscore]

theorem pay2_apply (v : Vec Ideal S1x1x2048x64 .f32) (n : Fin 2048) (d : Fin 64) : k0_pay2 v (ix2 n d) = v (ix4 0 0 n d) := by
  pointwise [k0_pay2]

theorem pay3_zero (n : Fin 2048) : k0_pay3 (F := Ideal) (ix2 n 0) = 1 := by
  pointwise [k0_pay3]
  show (((BitVec.setWidth 32 (IntOp.cmpi CmpIPredicate.eq (BitVec.ofNat 32 0) 0#32)).toInt : ℝ) : EReal) = 1
  rw [show (BitVec.setWidth 32 (IntOp.cmpi CmpIPredicate.eq (BitVec.ofNat 32 0) 0#32)).toInt = 1 by decide]
  simp

/-- The scratch that holds the value rows beside a column of ones, as the two stores leave it. -/
abbrev vRows (x : Vec Ideal S1x1x2048x64 .f32) : Vec Ideal S2048x128 .bf16 :=
  View.canon [⟨Rect.unit ![0, 64] ![2048, 64] inb_S2048x128_S2048x64_0_64, k0_pay3 (F := Ideal)⟩,
    ⟨Rect.unit ![0, 0] ![2048, 64] inb_S2048x128_S2048x64_0_0, k0_pay2 (F := Ideal) x⟩]

theorem vRows_left (x : Vec Ideal S1x1x2048x64 .f32) (n : Fin 2048) (d : Fin 64) :
    vRows x (ix2 n ⟨↑d, by omega⟩) = x (ix4 0 0 n d) := by
  canon_tiles y h
  · idx_vars y
    omega
  · idx_vars y
    obtain rfl : y0 = n := Fin.ext h0.symm
    obtain rfl : y1 = d := Fin.ext h1.symm
    exact pay2_apply x y0 y1

theorem vRows_one (x : Vec Ideal S1x1x2048x64 .f32) (n : Fin 2048) :
    vRows x (ix2 n 64) = 1 := by
  canon_tiles y h
  · idx_vars y
    have h1' : 64 = 64 + (y1 : ℕ) := h1
    obtain rfl : y1 = 0 := Fin.ext (by show (y1 : ℕ) = 0; omega)
    exact pay3_zero y0
  · idx_vars y
    have h1' : 64 = (y1 : ℕ) := h1
    omega

end Cert.KernelIdeal.Attn
-- ==== Proof.KernelRun.lean ====
module

public import proofs.«01_k».proof.Proof.Gen.KernelIdeal.Frame
public import proofs.«01_k».proof.Proof.KernelValue
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem off1_zero : ∀ t : Fin cfg0.N, k0_off1 (grid0.coords t) = ![0, 0, 0] :=
  (by decide +kernel : ∀ t : Fin grid0.N, k0_off1 (grid0.coords t) = ![0, 0, 0])

/-- What a grid point leaves in the output block: the body's formula at the point's input blocks. -/
theorem out_eq (c : Dev nD) (t : Fin cfg0.N) : outsAt0 (F := Ideal) m c t
    = k0_pay4 (iblk m c 0 t) (k0_pay1 (iblk m c 1 t)) (iblk m c 3 t) (vRows (iblk m c 2 t)) := by
  unfold outsAt0
  frame_out
  refine congrArg₂ (fun a b => k0_pay4 (F := Ideal) (iblk m c 0 t) (k0_pay1 (iblk m c 1 t)) a b) ?_ ?_
  · funext j
    simp only [View.ld, off1_zero t]
    idx_vars j
    pointwise
    have e0 : k0_off1 (grid0.coords t) 0 = 0 := by rw [off1_zero t]; rfl
    have e1 : k0_off1 (grid0.coords t) 1 = 0 := by rw [off1_zero t]; rfl
    have e2 : k0_off1 (grid0.coords t) 2 = 0 := by rw [off1_zero t]; rfl
    generalize iblk m c 3 t = X
    refine congrArg X ((ix3_inj _ _ _ _ _ _).mpr ⟨Fin.ext ?_, Fin.ext ?_, Fin.ext ?_⟩)
    · show k0_off1 (grid0.coords t) 0 = (j0 : ℕ)
      omega
    · show k0_off1 (grid0.coords t) 1 + (j1 : ℕ) = (j1 : ℕ)
      omega
    · show k0_off1 (grid0.coords t) 2 + (j2 : ℕ) = (j2 : ℕ)
      omega
  · rw [View.readCov_eq_canon']
    funext j
    idx_vars j
    pointwise

theorem idx4 : ∀ t : Fin grid0.N, win0_4.index t = ![(grid0.coords t 0).val, 0, 0] := by decide +kernel

theorem coords0 : ∀ t : Fin grid0.N, (grid0.coords t 0 : ℕ) = t := by decide +kernel

/-- The index map sends distinct grid points to distinct blocks. -/
theorem idx_inj4 : ∀ t t' : Fin cfg0.N, win0_4.index t = win0_4.index t' → t = t' :=
  (by decide +kernel : ∀ t t' : Fin grid0.N, win0_4.index t = win0_4.index t' → t = t')

/-- So the blocks of two points share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Head `h`'s block of the array the region leaves is what the point of that head computed. -/
theorem arr_apply (c : Dev nD) (t : Fin cfg0.N) (y : S1x2048x64.Idx) (i : S12x2048x64.Idx) (h0 : (i 0 : ℕ) = t) (h1 : (i 1 : ℕ) = y 1)
    (h2 : (i 2 : ℕ) = y 2) :
    (dats m 0 c).arrAt 4 cfg0.N i = outsAt0 m c t y := by
  have hf : (cfg0.win 4).flush t = true := (by decide +kernel : ∀ t : Fin grid0.N, win0_4.flush t = true) t
  have hb := congrFun ((dats m 0 c).read_blk_arrAt_eq_flushed 4 disjoint4 cfg0.N t t.isLt hf) y
  rw [show (dats m 0 c).flushed 4 t = (cfg0.win 4).cut (grid0.coords t) (outsAt0 m c t) by
    show (cfg0.win 4).cut (grid0.coords t) ((dats m 0 c).after 4 t) = _
    rw [after0_4]] at hb
  refine Eq.trans ?_ (hb.trans ?_)
  · show _ = (dats m 0 c).arrAt 4 cfg0.N (((cfg0.win 4).blk t).view.emb y)
    refine congrArg _ ?_
    idx_vars y
    idx_vars i
    have := coords0 t
    blk_ext [idx4 t]
  · generalize outsAt0 m c t = X
    rfl

/-- The run of the whole program: its result is the region's array, transposed and reshaped; the arguments end as they began. -/
theorem run : θ_run defs (onTc (τ := τ) (main (F := Ideal))) ⟨m, fun _ => 0, ρ⟩ fun r => ∀ c : Dev nD,
      r.2.mem ((c : Thread nD τ).loc main_v19) = shapeCast _ (transpose S2048x12x64 [1, 0, 2] ((dats m 0 c).arrAt 4 cfg0.N) transposes_S12x2048x64_S2048x12x64_1_0_2) shapeCasts_S2048x12x64_S1x2048x12x64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  have hinj : Function.Injective (Pipeline.arrRef (cfgs 0).spec) := by decide
  run_from (run_main m ρ)
  · unfold Pipeline.afterTail₀
    show StableHlo.after hostOps1 _ _ = _
    unfold_abbrev_sides
    after_results
    refine congrArg (fun x => shapeCast S1x2048x12x64 (transpose S2048x12x64 [1, 0, 2] x transposes_S12x2048x64_S2048x12x64_1_0_2) shapeCasts_S2048x12x64_S1x2048x12x64) ?_
    exact Pipeline.withArrays_arr (cfgs 0).spec hinj c (V0 m c) (fun w => (dats m 0 c).arrAt w (cfgs 0).N) 4
  · exact W_main_arg3 m (dats m) c
  · exact W_main_arg4 m (dats m) c
  · exact W_main_arg5 m (dats m) c
  · exact W_main_arg6 m (dats m) c
  · exact W_main_arg7 m (dats m) c
  · exact W_main_arg8 m (dats m) c

end Cert.KernelIdeal.Attn
-- ==== Proof.Softmax.lean ====
/- Attention over a list of keys with repetitions against attention over all keys weighted by their multiplicities,
   over the extended reals. -/
module

public import Idealize.ShloMosaic.PureOps.Ideal
public import Idealize.ShloMosaic.PureOps.Ideal.Laws

@[expose] public section

noncomputable section

namespace Cert.Attn

open Idealize.ShloMosaic

theorem ideal_exp_coe (r : ℝ) : Ideal.exp (r : EReal) = (Real.exp r : EReal) := rfl
theorem ideal_exp_bot : Ideal.exp ⊥ = 0 := rfl

/-- A finite sum of reals, read in the extended reals. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a finite sum of extended reals. -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha, ← ih,
      EReal.right_distrib_of_nonneg_of_ne_top (EReal.coe_nonneg.mpr hx) (EReal.coe_ne_top x)]

/-- Division by a positive real is multiplication by its inverse. -/
theorem div_coe (x : EReal) {z : ℝ} (hz : 0 < z) : Ideal.div x (z : EReal) = x * ((z⁻¹ : ℝ) : EReal) := by
  unfold Ideal.div
  rw [if_neg (by simpa using hz.ne'), EReal.coe_inv]

/-- `n` equal summands are `n` times the summand. -/
theorem card_mul {ι : Type*} (s : Finset ι) (w : ℝ) (v : EReal) :
    ∑ _i ∈ s, (w : EReal) * v = (((s.card : ℝ) * w : ℝ) : EReal) * v := by
  rw [Finset.sum_const, EReal.nsmul_eq_mul, ← mul_assoc]
  congr 1

/-- The logarithm of a multiplicity: `⊥` where it is zero. -/
def logCount (n : ℕ) : EReal := if n = 0 then ⊥ else ((Real.log n : ℝ) : EReal)

theorem exp_add_logCount (s : ℝ) (n : ℕ) : Ideal.exp ((s : EReal) + logCount n) = (((n : ℝ) * Real.exp s : ℝ) : EReal) := by
  unfold logCount
  split
  · next h => subst h; rw [EReal.add_bot, ideal_exp_bot]; simp
  · next h =>
    have hn : (0 : ℝ) < n := by exact_mod_cast Nat.pos_of_ne_zero h
    rw [← EReal.coe_add, ideal_exp_coe, Real.exp_add, Real.exp_log hn, mul_comm]

/-- What attention with multiplicities computes: the weights are `c t · e^(s t)`. -/
def weighted {τ : Type} [Fintype τ] (s : τ → ℝ) (c : τ → ℕ) (v : τ → EReal) : EReal :=
  Ideal.div (∑ t, Ideal.exp ((s t : EReal) + logCount (c t)) * v t) (∑ t, Ideal.exp ((s t : EReal) + logCount (c t)))

/-- THE SOFTMAX over a nonempty list of keys `κ`, shifted by any real `M`, is the attention in which every key counts
    as often as it occurs in the list. -/
theorem softmax_eq_weighted {ι τ : Type} [Fintype ι] [Fintype τ] [DecidableEq τ] [Nonempty ι] (κ : ι → τ) (s : τ → ℝ)
    (v : τ → EReal) (c : τ → ℕ) (hc : ∀ t, c t = (Finset.univ.filter fun l => κ l = t).card) (M : ℝ) :
    ∑ l, Ideal.div (Ideal.exp ((s (κ l) : EReal) - (M : EReal))) (∑ l', Ideal.exp ((s (κ l') : EReal) - (M : EReal))) * v (κ l)
      = weighted s c v := by
  have hpos : ∀ r : ℝ, 0 < Real.exp r := Real.exp_pos
  set Z : ℝ := ∑ l, Real.exp (s (κ l)) with hZ
  have hZp : 0 < Z := Finset.sum_pos (fun l _ => hpos _) Finset.univ_nonempty
  -- the reference's denominator
  have hden : (∑ l', Ideal.exp ((s (κ l') : EReal) - (M : EReal))) = ((Z * Real.exp (-M) : ℝ) : EReal) := by
    rw [hZ, Finset.sum_mul, coe_finset_sum]
    refine Finset.sum_congr rfl fun l _ => ?_
    rw [← EReal.coe_sub, ideal_exp_coe, sub_eq_add_neg, Real.exp_add]
  have hw : ∀ l, Ideal.div (Ideal.exp ((s (κ l) : EReal) - (M : EReal))) (∑ l', Ideal.exp ((s (κ l') : EReal) - (M : EReal)))
      = ((Real.exp (s (κ l)) * Z⁻¹ : ℝ) : EReal) := by
    intro l
    rw [hden, div_coe _ (mul_pos hZp (hpos _)), ← EReal.coe_sub, ideal_exp_coe, ← EReal.coe_mul]
    congr 1
    rw [sub_eq_add_neg, Real.exp_add]
    field_simp [hZp.ne', (hpos (-M)).ne']
  -- the other side's denominator is the same
  have hden' : (∑ t, Ideal.exp ((s t : EReal) + logCount (c t))) = (Z : EReal) := by
    rw [hZ, ← Finset.sum_fiberwise Finset.univ κ fun l => Real.exp (s (κ l)), coe_finset_sum]
    refine Finset.sum_congr rfl fun t _ => ?_
    rw [exp_add_logCount, hc t]
    congr 1
    rw [Finset.sum_congr rfl (g := fun _ => Real.exp (s t)) fun l hl => by rw [(Finset.mem_filter.mp hl).2], Finset.sum_const,
      nsmul_eq_mul]
  unfold weighted
  rw [hden', div_coe _ hZp, sum_mul_coe _ _ (inv_nonneg.mpr hZp.le)]
  rw [← Finset.sum_fiberwise Finset.univ κ]
  refine Finset.sum_congr rfl fun t _ => ?_
  rw [Finset.sum_congr rfl (g := fun _ => ((Real.exp (s t) * Z⁻¹ : ℝ) : EReal) * v t) fun l hl => by
    rw [hw l, (Finset.mem_filter.mp hl).2], card_mul, exp_add_logCount, hc t, mul_right_comm, ← EReal.coe_mul]
  congr 2
  ring

end Cert.Attn
-- ==== Proof.Blocks.lean ====
module

public import proofs.«01_k».proof.Proof.Softmax
public import Idealize.ShloMosaic.Lib.Pointwise

@[expose] public section

noncomputable section

namespace Cert.Attn

open Idealize.ShloMosaic

/-! ## The literals -/

theorem ofBits_bot : Ideal.ofBits .f32 0xFF800000#32 = ⊥ := by
  simp [Ideal.ofBits, Ideal.ieee]

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]
  norm_num

theorem ofBits_eighth : Ideal.ofBits .f32 0x3E000000#32 = ((1 / 8 : ℝ) : EReal) := by
  simp [Ideal.ofBits, Ideal.ieee, -EReal.coe_mul]
  norm_num

theorem ofBits_top : Ideal.ofBits .f32 0x7F800000#32 = ⊤ := by
  simp [Ideal.ofBits, Ideal.ieee]

/-! ## Which blocks a query block attends to -/

/-- The list of key blocks of query block `p + 2`, `p < 28`: its three neighbours, the first and the last block, then the
    36 random blocks `rb`. -/
def midBlk (rb : Fin 36 → ℕ) (p : ℕ) (b : Fin 41) : ℕ :=
  if b.val = 0 then 1 + p else if b.val = 1 then 2 + p else if b.val = 2 then 3 + p else if b.val = 3 then 0 else if b.val = 4 then 31
    else if h : 5 ≤ b.val then rb ⟨b.val - 5, by omega⟩ else 0

/-- A run of consecutive blocks from block `a`. -/
def runBlk (a : ℕ) {B : ℕ} (b : Fin B) : ℕ := a + b.val

/-- How often block `j` is in the list. -/
def times {B : ℕ} (blk : Fin B → ℕ) (j : ℕ) : ℕ := (Finset.univ.filter fun b => blk b = j).card

/-- How often block `j` is among the blocks that query block `i` attends to, `rb p` being the random blocks of query block `p + 2`. -/
def count (rb : ℕ → Fin 36 → ℕ) (i j : ℕ) : ℕ :=
  if i = 0 then times (B := 2) (runBlk 0) j
  else if i = 1 then times (B := 3) (runBlk 0) j
  else if i < 30 then times (midBlk (rb (i - 2)) (i - 2)) j
  else if i = 30 then times (B := 3) (runBlk 29) j
  else times (B := 2) (runBlk 30) j

/-- The random blocks of query block `p + 2`, in the order of the list. -/
def randBlk (ra : IVec ⟨3, ![12, 30, 3]⟩ 32) (p : ℕ) (x : Fin 36) : ℕ :=
  if h : p < 28 then (ra (ix3 ⟨x / 3, by omega⟩ ⟨p, by omega⟩ ⟨x % 3, by omega⟩)).toNat else 0

/-- The score of a query against a key. -/
def score (q k : (⟨4, ![1, 12, 2048, 64]⟩ : Shape).Idx → EReal) (h : Fin 12) (n t : Fin 2048) : ℝ :=
  (∑ e : Fin 64, (q (ix4 0 h n e)).toReal * (k (ix4 0 h t e)).toReal) * (1 / 8)

/-- What both programs compute: attention over all keys, each weighted by how often its block is attended to. -/
def target (q k v : (⟨4, ![1, 12, 2048, 64]⟩ : Shape).Idx → EReal) (ra : IVec ⟨3, ![12, 30, 3]⟩ 32) (h : Fin 12) (n : Fin 2048) (d : Fin 64) : EReal :=
  weighted (score q k h n) (fun t => count (randBlk ra) (n.val / 64) (t.val / 64)) (fun t => v (ix4 0 h t d))

/-- The key that place `l` of a list of blocks names. -/
def key {B L : ℕ} (hL : L = B * 64) (blk : Fin B → ℕ) (hb : ∀ b, blk b < 32) (l : Fin L) : Fin 2048 :=
  ⟨64 * blk ⟨l.val / 64, by omega⟩ + l.val % 64, by have := hb ⟨l.val / 64, by omega⟩; omega⟩

/-- Each key is named as often as its block is in the list. -/
theorem card_key {B L : ℕ} (hL : L = B * 64) (blk : Fin B → ℕ) (hb : ∀ b, blk b < 32) (t : Fin 2048) :
    times blk (t.val / 64) = (Finset.univ.filter fun l => key hL blk hb l = t).card := by
  unfold times
  refine Finset.card_bij (fun b _ => ⟨64 * b.val + t.val % 64, by omega⟩) ?_ ?_ ?_
  · intro b h
    simp only [Finset.mem_filter, Finset.mem_univ, true_and] at h ⊢
    refine Fin.ext ?_
    unfold key
    have e : (⟨(64 * b.val + t.val % 64) / 64, by omega⟩ : Fin B) = b := Fin.ext (by show (64 * b.val + t.val % 64) / 64 = b.val; omega)
    simp only [e, h]
    omega
  · intro b _ b' _ h
    have := congrArg Fin.val h
    exact Fin.ext (by simp only at this; omega)
  · intro l h
    simp only [Finset.mem_filter, Finset.mem_univ, true_and] at h
    have h' := congrArg Fin.val h
    unfold key at h'
    simp only at h'
    have := hb ⟨l.val / 64, by omega⟩
    refine ⟨⟨l.val / 64, by omega⟩, ?_, ?_⟩
    · simp only [Finset.mem_filter, Finset.mem_univ, true_and]
      omega
    · refine Fin.ext ?_
      show 64 * (l.val / 64) + t.val % 64 = l.val
      omega

theorem midBlk_lt (rb : Fin 36 → ℕ) (hr : ∀ x, rb x < 32) (p : ℕ) (hp : p < 28) (b : Fin 41) : midBlk rb p b < 32 := by
  unfold midBlk
  split_ifs <;> first | omega | exact hr _

theorem runBlk_lt (a : ℕ) {B : ℕ} (h : a + B ≤ 32) (b : Fin B) : runBlk a b < 32 := by
  unfold runBlk
  omega

/-- The list of a middle query block: its fixed part and its random part counted apart. -/
theorem times_mid (rb : Fin 36 → ℕ) (p j : ℕ) : times (midBlk rb p) j
    = (if 1 + p = j then 1 else 0) + (if 2 + p = j then 1 else 0) + (if 3 + p = j then 1 else 0) + (if 0 = j then 1 else 0)
      + (if 31 = j then 1 else 0) + (Finset.univ.filter fun x => rb x = j).card := by
  unfold times
  rw [Finset.card_filter, Finset.card_filter]
  simp only [Fin.sum_univ_succ (n := 40), Fin.sum_univ_succ (n := 39), Fin.sum_univ_succ (n := 38), Fin.sum_univ_succ (n := 37), Fin.sum_univ_succ (n := 36)]
  have e : ∀ x : Fin 36, midBlk rb p x.succ.succ.succ.succ.succ = rb x := fun x => by
    simp [midBlk]
  simp only [e]
  simp [midBlk]
  ring

theorem times_run (a : ℕ) {B : ℕ} (j : ℕ) : times (B := B) (runBlk a) j = if a ≤ j ∧ j < a + B then 1 else 0 := by
  unfold times runBlk
  split_ifs with h
  · refine Finset.card_eq_one.mpr ⟨⟨j - a, by omega⟩, ?_⟩
    ext b
    simp only [Finset.mem_filter, Finset.mem_univ, true_and, Finset.mem_singleton, Fin.ext_iff]
    omega
  · rw [Finset.card_eq_zero, Finset.filter_eq_empty_iff]
    intro b _
    omega

/-! ## Scores of finite entries are real -/

theorem score_scaled_query (q k : (⟨4, ![1, 12, 2048, 64]⟩ : Shape).Idx → EReal) (hq : ∀ i, ∃ r : ℝ, q i = r) (hk : ∀ i, ∃ r : ℝ, k i = r)
    (h : Fin 12) (n t : Fin 2048) : (∑ e : Fin 64, q (ix4 0 h n e) * Ideal.ofBits .f32 0x3E000000#32 * k (ix4 0 h t e)) = (score q k h n t : EReal) := by
  unfold score
  rw [Finset.sum_mul, coe_finset_sum]
  refine Finset.sum_congr rfl fun e _ => ?_
  obtain ⟨x, hx⟩ := hq (ix4 0 h n e)
  obtain ⟨y, hy⟩ := hk (ix4 0 h t e)
  rw [hx, hy, ofBits_eighth, EReal.toReal_coe, EReal.toReal_coe, ← EReal.coe_mul, ← EReal.coe_mul]
  exact congrArg _ (by ring)

theorem score_scaled (q k : (⟨4, ![1, 12, 2048, 64]⟩ : Shape).Idx → EReal) (hq : ∀ i, ∃ r : ℝ, q i = r) (hk : ∀ i, ∃ r : ℝ, k i = r)
    (h : Fin 12) (n t : Fin 2048) : (∑ e : Fin 64, q (ix4 0 h n e) * k (ix4 0 h t e)) * Ideal.ofBits .f32 0x3E000000#32 = (score q k h n t : EReal) := by
  unfold score
  rw [ofBits_eighth, EReal.coe_mul, coe_finset_sum]
  refine congrArg (fun s : EReal => s * ((1 / 8 : ℝ) : EReal)) (Finset.sum_congr rfl fun e _ => ?_)
  obtain ⟨x, hx⟩ := hq (ix4 0 h n e)
  obtain ⟨y, hy⟩ := hk (ix4 0 h t e)
  rw [hx, hy, EReal.toReal_coe, EReal.toReal_coe, ← EReal.coe_mul]

/-! ## The reference's softmax over a list of blocks -/

/-- The greatest of finitely many real scores, at least one, is real. -/
theorem fold_max_real {L : ℕ} (hL : 0 < L) (S : Fin L → EReal) (s : Fin L → ℝ) (hS : ∀ l, S l = s l) :
    ∃ M : ℝ, Finset.univ.fold max (⊥ : EReal) S = M := by
  have h0 : (s ⟨0, hL⟩ : EReal) ≤ Finset.univ.fold max (⊥ : EReal) S :=
    (Finset.le_fold_max _).mpr (Or.inr ⟨_, Finset.mem_univ _, (hS _).ge⟩)
  have h1 : Finset.univ.fold max (⊥ : EReal) S < ⊤ :=
    (Finset.fold_max_lt _).mpr ⟨bot_lt_top, fun x _ => by rw [hS]; exact EReal.coe_lt_top _⟩
  have hb : Finset.univ.fold max (⊥ : EReal) S ≠ ⊥ := fun e => by rw [e] at h0; exact absurd h0 (not_le.mpr (EReal.bot_lt_coe _))
  exact ⟨_, (EReal.coe_toReal h1.ne hb).symm⟩

/-- Softmax of the scores over a list of blocks against the values there, the maximum subtracted: every key weighted by how often its block is listed. -/
theorem list_softmax {B L : ℕ} (hL : L = B * 64) (hB : 0 < B) (blk : Fin B → ℕ) (hb : ∀ b, blk b < 32)
    (s : Fin 2048 → ℝ) (v : Fin 2048 → EReal) (S E W : Fin L → EReal) (hS : ∀ l, S l = s (key hL blk hb l))
    (hE : ∀ l, E l = Ideal.exp (S l - max (Ideal.ofBits .f32 0xFF800000#32) (Finset.univ.fold max (Ideal.ofBits .f32 0xFF800000#32) S)))
    (hW : ∀ l, W l = v (key hL blk hb l)) :
    ∑ l, Ideal.div (E l) (∑ l', E l') * W l = weighted s (fun t => times blk (t.val / 64)) v := by
  obtain ⟨M, hM⟩ := fold_max_real (L := L) (by omega) S _ hS
  haveI : Nonempty (Fin L) := ⟨⟨0, by omega⟩⟩
  rw [← softmax_eq_weighted (key hL blk hb) s v _ (card_key hL blk hb) M]
  simp only [hE, hW, ofBits_bot, hM, bot_le, max_eq_right]
  simp only [hS]

end Cert.Attn
-- ==== Proof.HostTable.lean ====
module

public import proofs.«01_k».proof.Proof.Gen.KernelIdeal.Frame
public import proofs.«01_k».proof.Proof.Blocks
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The fixed blocks' counts, from the literal. -/
def litTable : FVec Ideal S32x32 .f32 := fun i => FloatOps.ofBits .f32 (lit0 (S32x32.rowMajor i))

/-- How often block `j` is among the blocks that query block `i` attends to, as the host counts it: the fixed blocks from
    the literal table, the random blocks of the middle query blocks from the one-hot rows. -/
def hostCount (lit : FVec Ideal S32x32 .f32) (ra : IVec S12x30x3 32) : FVec Ideal S32x32 .f32 :=
  addf lit
    (pad S32x32 ![2, 0] ![2, 0] ![0, 0]
      (Host.reduceAdd
        (uitofp .f32 (cmpi .eq
          (broadcastInDim S28x36x32 ![0, 1, 2] bcast_S28x36x1_S28x36x32_0_1_2
            (broadcastInDim S28x36x1 ![0, 1] bcast_S28x36_S28x36x1_0_1
              (shapeCast S28x36
                (transpose S28x12x3 [1, 0, 2]
                  (extractStridedSlice S12x28x3 ![0, 0, 0]
                    (minsi (broadcastInDim S12x30x3 ![] bcast_S_S12x30x3 (constantI S_ 32 31#32))
                      (maxsi (broadcastInDim S12x30x3 ![] bcast_S_S12x30x3 (constantI S_ 32 0#32)) ra))
                    slices_S12x30x3_S12x28x3_0_0_0)
                  transposes_S12x28x3_S28x12x3_1_0_2)
                shapeCasts_S28x12x3_S28x36)))
          (broadcastInDim S28x36x32 ![0, 1, 2] bcast_S1x1x32_S28x36x32_0_1_2 (iotaInDim S1x1x32 32 2))))
        (constant S_ .f32 0x00000000#32) reducesTo_S28x36x32_S28x32_d1 h_S_)
      (sitofp .f32 (constantI S_ 32 0#32)) pads_S28x32_S32x32_220_000 h_S_)

/-- The logarithm of a count, `−∞` where the count is zero. -/
def hostLog (n : FVec Ideal S32x32 .f32) : FVec Ideal S32x32 .f32 :=
  select (cmpf .ogt n (broadcastInDim S32x32 ![] bcast_S_S32x32 (constant S_ .f32 0x00000000#32)))
    (Host.log (maximumf n (broadcastInDim S32x32 ![] bcast_S_S32x32 (constant S_ .f32 0x3F800000#32))))
    (broadcastInDim S32x32 ![] bcast_S_S32x32 (constant S_ .f32 0xFF800000#32))

set_option maxHeartbeats 1000000 in
/-- The table that the region is handed. -/
theorem table_eq (c : Dev nD) : V m c main_v16
    = shapeCast S1x32x2048 (shapeCast S32x2048 (broadcastInDim S32x32x64 ![0, 1] bcast_S32x32_S32x32x64_0_1
        (hostLog (hostCount litTable (m (c, Proc.devRef .tc main_arg8))))) shapeCasts_S32x32x64_S32x2048) shapeCasts_S32x2048_S1x32x2048 := by
  unfold V V0
  unfold_abbrev_sides
  simp only [List.flatten_cons, List.flatten_nil, List.append_nil, List.cons_append, List.nil_append]
  after_results
  simp only [StableHlo.TRef.ofBuf_toBuf]
  rfl

/-- The table at an index. -/
theorem table_apply (c : Dev nD) (i : Fin 32) (t : Fin 2048) : (V m c main_v16 : S1x32x2048.Idx → EReal) (ix3 0 i t)
    = hostLog (hostCount litTable (m (c, Proc.devRef .tc main_arg8))) (ix2 i ⟨↑t / 64, by omega⟩) := by
  rw [table_eq]
  generalize hostLog _ = X
  pointwise

theorem hostLog_apply (n : FVec Ideal S32x32 .f32) (i : S32x32.Idx) (k : ℕ) (h : n i = ((k : ℝ) : EReal)) : hostLog n i = Cert.Attn.logCount k := by
  pointwise [hostLog]
  rw [h, Cert.Attn.ofBits_bot]
  unfold Cert.Attn.logCount
  rcases Nat.eq_zero_or_pos k with rfl | hk
  · simp
  · have h1 : (1 : ℝ) ≤ k := by exact_mod_cast hk
    have h0 : (0 : ℝ) < k := by linarith
    rw [if_pos (by exact_mod_cast h0), if_neg hk.ne', max_eq_left (by exact_mod_cast h1)]
    show (if (k : ℝ) ≤ 0 then (⊥ : EReal) else (Real.log k : ℝ)) = _
    rw [if_neg (not_le.mpr h0)]

/-- A one where a fixed block is attended to and a zero elsewhere. -/
def litWord (i j : Fin 32) : BitVec 32 :=
  if i.val = 0 ∧ j.val < 2 ∨ i.val = 1 ∧ j.val < 3 ∨ i.val = 30 ∧ 29 ≤ j.val ∨ i.val = 31 ∧ 30 ≤ j.val
      ∨ (2 ≤ i.val ∧ i.val < 30) ∧ (j.val = 0 ∨ j.val = 31 ∨ i.val - 1 ≤ j.val ∧ j.val ≤ i.val + 1) then 0x3F800000#32 else 0x00000000#32

/-- What the literal table holds. -/
theorem lit_words : ∀ i j : Fin 32, lit0 (S32x32.rowMajor (ix2 i j)) = litWord i j := by
  decide +kernel

theorem lit_table (i j : Fin 32) : litTable (ix2 i j) = Ideal.ofBits .f32 (litWord i j) :=
  congrArg (Ideal.ofBits .f32) (lit_words i j)

/-- A word holding a block number is not moved by the clamp into the block range. -/
theorem clamp_block (w : BitVec 32) (h : w.toNat < 32) : IntOp.minsi 31#32 (IntOp.maxsi 0#32 w) = w := by
  have e : w = BitVec.ofNat 32 w.toNat := by simp
  rw [e]
  generalize w.toNat = n at h
  revert n
  decide +kernel

/-- One entry of a one-hot row. -/
theorem one_hot (w : BitVec 32) (h : w.toNat < 32) (j : Fin 32) : (FloatOps.uitofp (F := Ideal) .f32 (IntOp.cmpi .eq w (BitVec.ofNat 32 ↑j)) : EReal)
    = if w.toNat = j.val then 1 else 0 := by
  have e : (w == BitVec.ofNat 32 ↑j) = decide (w.toNat = j.val) := by
    rw [Bool.eq_iff_iff]
    simp only [beq_iff_eq, decide_eq_true_eq, BitVec.toNat_eq, BitVec.toNat_ofNat]
    omega
  show (((BitVec.ofBool (w == BitVec.ofNat 32 ↑j)).toNat : ℝ) : EReal) = _
  rw [e]
  by_cases hw : w.toNat = j.val <;> simp [hw]

/-- A one-hot sum counts. -/
theorem one_hot_sum (f : Fin 36 → ℕ) (j : ℕ) : (∑ x, if f x = j then (1 : EReal) else 0) = (((Finset.univ.filter fun x => f x = j).card : ℝ) : EReal) := by
  rw [Finset.card_filter, Nat.cast_sum, Cert.Attn.coe_finset_sum]
  refine Finset.sum_congr rfl fun x _ => ?_
  split_ifs <;> simp

/-- The random part of a row of counts. -/
theorem rand_sum (ra : IVec S12x30x3 32) (hr : ∀ i, (ra i).toNat < 32) (p : ℕ) (hp : p < 28) (j : Fin 32) :
    (∑ x : Fin 36, FloatOps.uitofp (F := Ideal) .f32 (IntOp.cmpi .eq
      (IntOp.minsi 31#32 (IntOp.maxsi 0#32 (ra (ix3 ⟨x / 3, by omega⟩ ⟨p, by omega⟩ ⟨x % 3, by omega⟩)))) (BitVec.ofNat 32 ↑j)) : EReal)
    = (((Finset.univ.filter fun x => Cert.Attn.randBlk ra p x = j.val).card : ℝ) : EReal) := by
  rw [← one_hot_sum]
  refine Finset.sum_congr rfl fun x _ => ?_
  rw [clamp_block _ (hr _), one_hot _ (hr _)]
  unfold Cert.Attn.randBlk
  rw [dif_pos hp]

theorem litWord_value (i j : Fin 32) : Ideal.ofBits .f32 (litWord i j)
    = (((if i.val = 0 ∧ j.val < 2 ∨ i.val = 1 ∧ j.val < 3 ∨ i.val = 30 ∧ 29 ≤ j.val ∨ i.val = 31 ∧ 30 ≤ j.val
      ∨ (2 ≤ i.val ∧ i.val < 30) ∧ (j.val = 0 ∨ j.val = 31 ∨ i.val - 1 ≤ j.val ∧ j.val ≤ i.val + 1) then 1 else 0 : ℕ) : ℝ) : EReal) := by
  unfold litWord
  split_ifs
  · rw [Cert.Attn.ofBits_one]; simp
  · rw [Cert.Attn.ofBits_zero]; simp

/-- The fixed and the random part together. -/
theorem count_split (rb : ℕ → Fin 36 → ℕ) (i j : Fin 32) :
    (if i.val = 0 ∧ j.val < 2 ∨ i.val = 1 ∧ j.val < 3 ∨ i.val = 30 ∧ 29 ≤ j.val ∨ i.val = 31 ∧ 30 ≤ j.val
      ∨ (2 ≤ i.val ∧ i.val < 30) ∧ (j.val = 0 ∨ j.val = 31 ∨ i.val - 1 ≤ j.val ∧ j.val ≤ i.val + 1) then 1 else 0 : ℕ)
    + (if 2 ≤ i.val ∧ i.val - 2 < 28 then (Finset.univ.filter fun x => rb (i.val - 2) x = j.val).card else 0)
    = Cert.Attn.count rb i j := by
  unfold Cert.Attn.count
  rw [Cert.Attn.times_mid, Cert.Attn.times_run, Cert.Attn.times_run, Cert.Attn.times_run, Cert.Attn.times_run]
  generalize (Finset.univ.filter fun x => rb (i.val - 2) x = j.val).card = N
  have := i.isLt
  have := j.isLt
  split_ifs <;> omega

/-- A number that is there under a condition, and zero else. -/
theorem dite_count {P : Prop} (d d' : Decidable P) (f : P → EReal) (z : EReal) (n : ℕ) (hf : ∀ h, f h = ((n : ℝ) : EReal)) (hz : z = 0) :
    @dite EReal P d f (fun _ => z) = (((@ite ℕ P d' n 0 : ℕ) : ℝ) : EReal) := by
  by_cases h : P
  · rw [dif_pos h, if_pos h, hf]
  · rw [dif_neg h, if_neg h, hz]; simp

/-- The host's count, a natural number. -/
theorem hostCount_apply (lit : FVec Ideal S32x32 .f32) (hl : ∀ i j : Fin 32, lit (ix2 i j) = Ideal.ofBits .f32 (litWord i j))
    (ra : IVec S12x30x3 32) (hr : ∀ i, (ra i).toNat < 32) (i j : Fin 32) :
    hostCount lit ra (ix2 i j) = ((Cert.Attn.count (Cert.Attn.randBlk ra) i j : ℝ) : EReal) := by
  pointwise [hostCount]
  refine Eq.trans ?_ (congrArg (fun k : ℕ => ((k : ℝ) : EReal)) (count_split (Cert.Attn.randBlk ra) i j))
  refine Eq.trans ?_ ((congrArg _ (Nat.cast_add _ _)).trans (EReal.coe_add _ _)).symm
  refine congrArg₂ (fun a b : EReal => a + b) ((hl i j).trans (litWord_value i j)) ?_
  refine dite_count _ _ _ _ _ (fun h => rand_sum ra hr _ h.2 j) ?_
  show (((0#32 : BitVec 32).toInt : ℝ) : EReal) = _
  simp

/-- The table at an index: the logarithm of the count of the key's block. -/
theorem table_count (c : Dev nD) (hr : ∀ i, ((m (c, Proc.devRef .tc main_arg8) : IVec S12x30x3 32) i).toNat < 32) (i : Fin 32) (t : Fin 2048) :
    (V m c main_v16 : S1x32x2048.Idx → EReal) (ix3 0 i t)
    = Cert.Attn.logCount (Cert.Attn.count (Cert.Attn.randBlk (m (c, Proc.devRef .tc main_arg8))) i (t.val / 64)) := by
  rw [table_apply]
  exact hostLog_apply _ _ _ (hostCount_apply litTable lit_table _ hr i ⟨t.val / 64, by omega⟩)

end Cert.KernelIdeal.Attn
-- ==== Proof.KernelFinal.lean ====
module

public import proofs.«01_k».proof.Proof.KernelRun
public import proofs.«01_k».proof.Proof.HostTable

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

theorem idx0 : ∀ t : Fin grid0.N, win0_0.index t = ![0, (grid0.coords t 0).val, 0, 0] := by decide +kernel
theorem idx1 : ∀ t : Fin grid0.N, win0_1.index t = ![0, (grid0.coords t 0).val, 0, 0] := by decide +kernel
theorem idx2 : ∀ t : Fin grid0.N, win0_2.index t = ![0, (grid0.coords t 0).val, 0, 0] := by decide +kernel
theorem idx3 : ∀ t : Fin grid0.N, win0_3.index t = ![0, 0, 0] := by decide +kernel

/-- The three blocks of a point are its head's rows of the arguments. -/
theorem block0 (c : Dev nD) (t : Fin cfg0.N) (h : Fin 12) (ht : h.val = t.val) (n : Fin 2048) (e : Fin 64) :
    (iblk m c 0 t : S1x1x2048x64.Idx → EReal) (ix4 0 0 n e) = (m (c, Proc.devRef .tc main_arg0) : S1x12x2048x64.Idx → EReal) (ix4 0 h n e) := by
  have := coords0 t
  unfold iblk
  rw [V_main_arg0]
  generalize m (c, Proc.devRef .tc main_arg0) = X
  blk_ext [idx0 t]

theorem block1 (c : Dev nD) (t : Fin cfg0.N) (h : Fin 12) (ht : h.val = t.val) (n : Fin 2048) (e : Fin 64) :
    (iblk m c 1 t : S1x1x2048x64.Idx → EReal) (ix4 0 0 n e) = (m (c, Proc.devRef .tc main_arg1) : S1x12x2048x64.Idx → EReal) (ix4 0 h n e) := by
  have := coords0 t
  unfold iblk
  rw [V_main_arg1]
  generalize m (c, Proc.devRef .tc main_arg1) = X
  blk_ext [idx1 t]

theorem block2 (c : Dev nD) (t : Fin cfg0.N) (h : Fin 12) (ht : h.val = t.val) (n : Fin 2048) (e : Fin 64) :
    (iblk m c 2 t : S1x1x2048x64.Idx → EReal) (ix4 0 0 n e) = (m (c, Proc.devRef .tc main_arg2) : S1x12x2048x64.Idx → EReal) (ix4 0 h n e) := by
  have := coords0 t
  unfold iblk
  rw [V_main_arg2]
  generalize m (c, Proc.devRef .tc main_arg2) = X
  blk_ext [idx2 t]

/-- The fourth is the whole table. -/
theorem block3 (c : Dev nD) (t : Fin cfg0.N) (i : Fin 32) (u : Fin 2048) :
    (iblk m c 3 t : S1x32x2048.Idx → EReal) (ix3 0 i u) = (V m c main_v16 : S1x32x2048.Idx → EReal) (ix3 0 i u) := by
  unfold iblk
  generalize V m c main_v16 = X
  blk_ext [idx3 t]

/-- An entry of the array that the region leaves. -/
theorem out_value (c : Dev nD) (hq : ∀ i, ∃ r : ℝ, @Eq EReal ((m (c, Proc.devRef .tc main_arg0) : S1x12x2048x64.Idx → EReal) i) r)
    (hk : ∀ i, ∃ r : ℝ, @Eq EReal ((m (c, Proc.devRef .tc main_arg1) : S1x12x2048x64.Idx → EReal) i) r)
    (hr : ∀ i, ((m (c, Proc.devRef .tc main_arg8) : IVec S12x30x3 32) i).toNat < 32) (h : Fin 12) (n : Fin 2048) (d : Fin 64) :
    ((dats m 0 c).arrAt 4 cfg0.N : S12x2048x64.Idx → EReal) (ix3 h n d)
    = Cert.Attn.target (m (c, Proc.devRef .tc main_arg0)) (m (c, Proc.devRef .tc main_arg1)) (m (c, Proc.devRef .tc main_arg2)) (m (c, Proc.devRef .tc main_arg8)) h n d := by
  have e := arr_apply m c ⟨h.val, h.isLt⟩ (ix3 0 n d) (ix3 h n d) rfl rfl rfl
  rw [e, out_eq, pay4_apply]
  unfold Cert.Attn.target Cert.Attn.weighted kscore
  simp only [block0 m c ⟨h.val, h.isLt⟩ h rfl, block1 m c ⟨h.val, h.isLt⟩ h rfl, block3, table_count m c hr, Cert.Attn.score_scaled_query _ _ hq hk,
    vRows_left, vRows_one, block2 m c ⟨h.val, h.isLt⟩ h rfl, mul_one]

/-- An entry of the program's result. -/
theorem result_value (c : Dev nD) (hq : ∀ i, ∃ r : ℝ, @Eq EReal ((m (c, Proc.devRef .tc main_arg0) : S1x12x2048x64.Idx → EReal) i) r)
    (hk : ∀ i, ∃ r : ℝ, @Eq EReal ((m (c, Proc.devRef .tc main_arg1) : S1x12x2048x64.Idx → EReal) i) r)
    (hr : ∀ i, ((m (c, Proc.devRef .tc main_arg8) : IVec S12x30x3 32) i).toNat < 32) (n : Fin 2048) (h : Fin 12) (d : Fin 64) :
    (shapeCast S1x2048x12x64 (transpose S2048x12x64 [1, 0, 2] ((dats m 0 c).arrAt 4 cfg0.N : S12x2048x64.Idx → EReal) transposes_S12x2048x64_S2048x12x64_1_0_2) shapeCasts_S2048x12x64_S1x2048x12x64)
      (ix4 0 n h d)
    = Cert.Attn.target (m (c, Proc.devRef .tc main_arg0)) (m (c, Proc.devRef .tc main_arg1)) (m (c, Proc.devRef .tc main_arg2)) (m (c, Proc.devRef .tc main_arg8)) h n d := by
  rw [← out_value m c hq hk hr h n d]
  generalize ((dats m 0 c).arrAt 4 cfg0.N : S12x2048x64.Idx → EReal) = X
  pointwise

end Cert.KernelIdeal.Attn
-- ==== Proof.Pre.lean ====
module

public import proofs.«01_k».proof.Pre_nothing_masked
public import proofs.«01_k».proof.Proof.Gen.Pre_nothing_masked
public import proofs.«01_k».proof.Proof.Blocks
public import Idealize.ShloMosaic.Lib.ReduceAll
public import Idealize.ShloMosaic.Lib.Pointwise

@[expose] public section

noncomputable section

namespace Cert.Pre_nothing_masked.Attn

open Cert.Pre_nothing_masked Cert.Pre_nothing_masked.Gen Idealize.ShloMosaic

/-- A conjunction of two truth values. -/
theorem and_split (x y : IVec S_ 1) (h : andi x y ix0 = 1#1) : x ix0 = 1#1 ∧ y ix0 = 1#1 := by
  have h' : x ix0 &&& y ix0 = 1#1 := h
  generalize x ix0 = a at *
  generalize y ix0 = b at *
  revert a b
  decide

/-- An extended real of absolute value below infinity is real. -/
theorem real_of_abs (x : EReal) (h : FloatOps.cmpf (F := Ideal) (φ := .f32) .olt (max x (-x)) (Ideal.ofBits .f32 0x7F800000#32) = 1#1) : ∃ r : ℝ, x = r := by
  rw [Cert.Attn.ofBits_top] at h
  have hb : ∀ b : Bool, BitVec.ofBool b = 1#1 → b = true := by decide
  have hl : max x (-x) < ⊤ := of_decide_eq_true (hb _ h)
  have h0 := max_lt_iff.mp hl
  refine ⟨x.toReal, (EReal.coe_toReal h0.1.ne fun e => ?_).symm⟩
  rw [e] at h0
  exact absurd h0.2 (by simp)

theorem ne_zero_of_une (x : EReal) (h : FloatOps.cmpf (F := Ideal) (φ := .f32) .une x (Ideal.ofBits .f32 0x00000000#32) = 1#1) : x ≠ 0 := by
  rw [Cert.Attn.ofBits_zero] at h
  have hb : ∀ b : Bool, BitVec.ofBool b = 1#1 → b = true := by decide
  exact of_decide_eq_true (hb _ h)

theorem block_of_range (w : BitVec 32) (h0 : IntOp.cmpi .sge w 0#32 = 1#1) (h1 : IntOp.cmpi .slt w 32#32 = 1#1) : w.toNat < 32 := by
  have hb : ∀ b : Bool, BitVec.ofBool b = 1#1 → b = true := by decide
  have e0 : (0#32).sle w = true := hb _ h0
  have e1 : w.slt 32#32 = true := hb _ h1
  rw [BitVec.sle, decide_eq_true_eq] at e0
  rw [BitVec.slt, decide_eq_true_eq] at e1
  have z : (0#32 : BitVec 32).toInt = 0 := by decide
  have y : (32#32 : BitVec 32).toInt = 32 := by decide
  rw [z] at e0
  rw [y] at e1
  have t := BitVec.toInt_eq_toNat_cond w
  have := w.isLt
  split_ifs at t <;> omega

variable (a0 a1 a2 : FVec Ideal S1x12x2048x64 .f32) (a3 : FVec Ideal S1x1x2048x2048 .f32) (a4 : FVec Ideal S1x1x2048x1 .f32) (a5 : FVec Ideal S1x1x1x2048 .f32)
  (a6 a7 : FVec Ideal S1x32x64 .f32) (a8 : IVec S12x30x3 32)

/-- What the precondition says, entry by entry. -/
theorem facts_of (h : fn (F := Ideal) a0 a1 a2 a3 a4 a5 a6 a7 a8 = fun _ => 1#1) :
    (∀ i, ∃ r : ℝ, a0 i = r) ∧ (∀ i, ∃ r : ℝ, a1 i = r) ∧ (∀ i, a3 i ≠ (0 : EReal)) ∧ (∀ i, a4 i ≠ (0 : EReal)) ∧ (∀ i, a5 i ≠ (0 : EReal)) ∧ ∀ i, (a8 i).toNat < 32 := by
  have h' := congrFun h ix0
  unfold fn fn_part1 at h'
  obtain ⟨h', g8⟩ := and_split _ _ h'
  obtain ⟨h', g8'⟩ := and_split _ _ h'
  obtain ⟨h', g5⟩ := and_split _ _ h'
  obtain ⟨h', g4⟩ := and_split _ _ h'
  obtain ⟨h', g3⟩ := and_split _ _ h'
  obtain ⟨g0, g1⟩ := and_split _ _ h'
  haveI : Subsingleton S_.Idx := ⟨fun a b => funext fun k => k.elim0⟩
  exact ⟨fun i => real_of_abs _ (Host.reduce_andi_all _ _ _ _ _ g0 i), fun i => real_of_abs _ (Host.reduce_andi_all _ _ _ _ _ g1 i),
    fun i => ne_zero_of_une _ (Host.reduce_andi_all _ _ _ _ _ g3 i), fun i => ne_zero_of_une _ (Host.reduce_andi_all _ _ _ _ _ g4 i),
    fun i => ne_zero_of_une _ (Host.reduce_andi_all _ _ _ _ _ g5 i),
    fun i => block_of_range _ (Host.reduce_andi_all _ _ _ _ _ g8' i) (Host.reduce_andi_all _ _ _ _ _ g8 i)⟩

end Cert.Pre_nothing_masked.Attn
-- ==== Proof.RefRead.lean ====
module

public import proofs.«01_k».proof.Proof.Gen.ReferenceIdeal.Run
public import proofs.«01_k».proof.Proof.Blocks
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Attn

open Cert.ReferenceIdeal Cert.ReferenceIdeal.Value Idealize.ShloMosaic Idealize.ShloMosaic.TcCoe Idealize.SL.Sem

/-! ## The gather of the random blocks -/

/-- The gather of whole blocks by block number, at an index. -/
theorem gather_block {α : Type} (x : S1x12x32x64x64.Idx → α) (idx : IVec S12x28x3x1 32) (h g : Fin 12) (p : Fin 28) (c : Fin 3) (e d : Fin 64)
    (k : ℕ) (hk : k < 32) (hw : (idx (ix4 g p c 0)).toNat = k) :
    Host.gather gather_S1x12x32x64x64_S12x28x3x1_S1x12x12x28x3x64x64_0156_2_n_n_2_3_11216464 x idx (ix7 0 h g p c e d) = x (ix5 0 h ⟨k, hk⟩ e d) := by
  unfold Host.gather
  refine congrArg x (funext fun a => Fin.ext ?_)
  have hi : (idx (ix4 g p c 0)).toInt.toNat = k := by
    have := BitVec.toInt_eq_toNat_cond (idx (ix4 g p c 0))
    rw [hw] at this
    rw [this, if_pos (by omega)]
    simp
  match a with
  | ⟨0, _⟩ => rfl
  | ⟨1, _⟩ =>
    show 0 + 0 + h.val = h.val
    omega
  | ⟨2, _⟩ =>
    show min (idx _).toInt.toNat (32 - 1) + 0 + 0 = k
    have e : GatherDims.siIdx gather_S1x12x32x64x64_S12x28x3x1_S1x12x12x28x3x64x64_0156_2_n_n_2_3_11216464 (ix7 (0 : Fin 1) h g p c e d) ⟨0, by decide⟩ = ix4 g p c 0 := by
      funext b
      match b with
      | ⟨0, _⟩ => rfl
      | ⟨1, _⟩ => rfl
      | ⟨2, _⟩ => rfl
      | ⟨3, _⟩ => rfl
    erw [e]
    omega
  | ⟨3, _⟩ =>
    show 0 + 0 + e.val = e.val
    omega
  | ⟨4, _⟩ =>
    show 0 + 0 + d.val = d.val
    omega

variable (V0 : Valuation τ sig (Elt Ideal))

/-- A word holding a block number is not moved by the clamp, and is in range. -/
theorem block_word (w : BitVec 32) (h : w.toNat < 32) : IntOp.minsi 31#32 (IntOp.maxsi 0#32 w) = w
    ∧ IntOp.andi (IntOp.cmpi .sge w 0#32) (IntOp.cmpi .slt w 32#32) = 1#1 ∧ IntOp.cmpi .slt w 0#32 = 0#1 := by
  have e : w = BitVec.ofNat 32 w.toNat := by simp
  rw [e]
  generalize w.toNat = n at h
  revert n
  decide +kernel

theorem v9_apply (hr : ∀ i, ((V0 (Proc.devRef .tc main_arg8) : IVec S12x30x3 32) i).toNat < 32) (g : Fin 12) (p : Fin 28) (x : Fin 3) :
    (res_main_v9 V0 : IVec S12x28x3 32) (ix3 g p x) = (V0 (Proc.devRef .tc main_arg8) : IVec S12x30x3 32) (ix3 g ⟨p, by omega⟩ x) := by
  unfold res_main_v9 res_main_v3
  clean_types
  pointwise
  exact (block_word _ (hr _)).1

theorem v8_apply (hr : ∀ i, ((V0 (Proc.devRef .tc main_arg8) : IVec S12x30x3 32) i).toNat < 32) (g : Fin 12) (p : Fin 28) (x : Fin 3) :
    (res_main_v8 V0 : IVec S12x28x3 1) (ix3 g p x) = 1#1 := by
  unfold res_main_v8 res_main_v3
  clean_types
  pointwise
  exact (block_word _ (hr _)).2.1

/-- The gather's block numbers. -/
theorem idx_apply (w : IVec S12x28x3 32) (hw : ∀ i, (w i).toNat < 32) (g : Fin 12) (p : Fin 28) (x : Fin 3) :
    (broadcastInDim S12x28x3x1 ![0, 1, 2] Gen.bcast_S12x28x3_S12x28x3x1_0_1_2
      (select (cmpi CmpIPredicate.slt w (broadcastInDim S12x28x3 ![] Gen.bcast_S_S12x28x3 (constantI S_ 32 0#32)))
        (addi w (broadcastInDim S12x28x3 ![] Gen.bcast_S_S12x28x3 (constantI S_ 32 32#32))) w) : IVec S12x28x3x1 32) (ix4 g p x 0)
    = w (ix3 g p x) := by
  pointwise
  rw [(block_word _ (hw _)).2.2]
  rfl

/-- A gathered block, times its in-range bit, is the block that the random block number names. -/
theorem rand_read (hr : ∀ i, ((V0 (Proc.devRef .tc main_arg8) : IVec S12x30x3 32) i).toNat < 32) (A : S1x12x2048x64.Idx → EReal)
    (h g : Fin 12) (p : Fin 28) (x : Fin 3) (e d : Fin 64) (n : Fin 2048)
    (hn : n.val = 64 * ((V0 (Proc.devRef .tc main_arg8) : IVec S12x30x3 32) (ix3 g ⟨p, by omega⟩ x)).toNat + e.val) :
    Host.gather gather_S1x12x32x64x64_S12x28x3x1_S1x12x12x28x3x64x64_0156_2_n_n_2_3_11216464
        (shapeCast S1x12x32x64x64 A Gen.shapeCasts_S1x12x2048x64_S1x12x32x64x64)
        (broadcastInDim S12x28x3x1 ![0, 1, 2] Gen.bcast_S12x28x3_S12x28x3x1_0_1_2
          (select (cmpi CmpIPredicate.slt (res_main_v9 V0) (broadcastInDim S12x28x3 ![] Gen.bcast_S_S12x28x3 (constantI S_ 32 0#32)))
            (addi (res_main_v9 V0) (broadcastInDim S12x28x3 ![] Gen.bcast_S_S12x28x3 (constantI S_ 32 32#32)))
            (res_main_v9 V0)))
        (ix7 0 h g p x e d)
      * FloatOps.uitofp (F := Ideal) .f32 ((res_main_v8 V0 : IVec S12x28x3 1) (ix3 g p x))
    = A (ix4 0 h n d) := by
  have hb := hr (ix3 g ⟨p, by omega⟩ x)
  have h9 : ∀ i, ((res_main_v9 V0 : IVec S12x28x3 32) i).toNat < 32 := by
    intro i
    idx_vars i
    rw [v9_apply V0 hr]
    exact hr _
  rw [v8_apply V0 hr, gather_block _ _ h g p x e d _ hb (by rw [idx_apply _ h9, v9_apply V0 hr])]
  have e1 : (FloatOps.uitofp (F := Ideal) .f32 1#1 : EReal) = 1 := by
    show (((1#1 : BitVec 1).toNat : ℝ) : EReal) = 1
    simp
  rw [e1, mul_one]
  pointwise
  refine congrArg A ((ix4_inj _ _ _ _ _ _ _ _).mpr ⟨rfl, rfl, Fin.ext ?_, rfl⟩)
  exact (by omega : ∀ a b c : ℕ, c = 64 * a + b → a * 64 + b = c) _ _ _ hn

end Cert.ReferenceIdeal.Attn
-- ==== Proof.RefEdges.lean ====
module

public import proofs.«01_k».proof.Proof.RefRead
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Attn

open Cert.ReferenceIdeal Cert.ReferenceIdeal.Value Idealize.ShloMosaic Idealize.ShloMosaic.TcCoe Idealize.SL.Sem

variable (V0 : Valuation τ sig (Elt Ideal))

/-- The query, key and value arguments as arrays of extended reals, and the masks. -/
abbrev argQ : S1x12x2048x64.Idx → EReal := V0 (Proc.devRef .tc main_arg0)
abbrev argK : S1x12x2048x64.Idx → EReal := V0 (Proc.devRef .tc main_arg1)
abbrev argV : S1x12x2048x64.Idx → EReal := V0 (Proc.devRef .tc main_arg2)
abbrev argR : IVec S12x30x3 32 := V0 (Proc.devRef .tc main_arg8)

/-- What the precondition gives. -/
structure Good : Prop where
  q : ∀ i, ∃ r : ℝ, argQ V0 i = r
  k : ∀ i, ∃ r : ℝ, argK V0 i = r
  band : ∀ i, @Ne EReal ((V0 (Proc.devRef .tc main_arg3) : S1x1x2048x2048.Idx → EReal) i) 0
  from' : ∀ i, @Ne EReal ((V0 (Proc.devRef .tc main_arg4) : S1x1x2048x1.Idx → EReal) i) 0
  to' : ∀ i, @Ne EReal ((V0 (Proc.devRef .tc main_arg5) : S1x1x1x2048.Idx → EReal) i) 0
  r : ∀ i, (argR V0 i).toNat < 32

variable {V0}

/-! ## The scores of the two first and the two last query blocks -/

/-- Query block 0 against key blocks 0 and 1. -/
theorem v157_apply (G : Good V0) (h : Fin 12) (r : Fin 64) (l : Fin 128) :
    (res_main_v157 V0 : S1x12x64x128.Idx → EReal) (ix4 0 h r l)
    = (Cert.Attn.score (argQ V0) (argK V0) h ⟨r.val, by omega⟩ (Cert.Attn.key (B := 2) rfl (Cert.Attn.runBlk 0) (Cert.Attn.runBlk_lt 0 (by omega)) l) : EReal) := by
  rw [← Cert.Attn.score_scaled _ _ G.q G.k]
  unfold res_main_v157 res_main_v0 res_main_v1
  clean_types
  pointwise
  rw [if_neg (mul_ne_zero (G.from' _) (G.to' _))]
  refine congrArg (fun s : EReal => s * Ideal.ofBits .f32 0x3E000000#32) (Finset.sum_congr rfl fun x _ => congrArg _ ?_)
  split_ifs <;>
    exact congrArg (argK V0) ((ix4_inj _ _ _ _ _ _ _ _).mpr ⟨rfl, rfl, Fin.ext (by simp only [Cert.Attn.key, Cert.Attn.runBlk]; omega), rfl⟩)

/-- Query block 1 against key blocks 0, 1 and 2. -/
theorem v197_apply (G : Good V0) (h : Fin 12) (r : Fin 64) (l : Fin 192) :
    (res_main_v197 V0 : S1x12x64x192.Idx → EReal) (ix4 0 h r l)
    = (Cert.Attn.score (argQ V0) (argK V0) h ⟨64 + r.val, by omega⟩ (Cert.Attn.key (B := 3) rfl (Cert.Attn.runBlk 0) (Cert.Attn.runBlk_lt 0 (by omega)) l) : EReal) := by
  rw [← Cert.Attn.score_scaled _ _ G.q G.k]
  unfold res_main_v197 res_main_v0 res_main_v1
  clean_types
  pointwise
  rw [if_neg (mul_ne_zero (G.from' _) (G.to' _))]
  refine congrArg (fun s : EReal => s * Ideal.ofBits .f32 0x3E000000#32) (Finset.sum_congr rfl fun x _ => congrArg _ ?_)
  split_ifs <;>
    exact congrArg (argK V0) ((ix4_inj _ _ _ _ _ _ _ _).mpr ⟨rfl, rfl, Fin.ext (by simp only [Cert.Attn.key, Cert.Attn.runBlk]; omega), rfl⟩)

/-- Query block 30 against key blocks 29, 30 and 31. -/
theorem v237_apply (G : Good V0) (h : Fin 12) (r : Fin 64) (l : Fin 192) :
    (res_main_v237 V0 : S1x12x64x192.Idx → EReal) (ix4 0 h r l)
    = (Cert.Attn.score (argQ V0) (argK V0) h ⟨1920 + r.val, by omega⟩ (Cert.Attn.key (B := 3) rfl (Cert.Attn.runBlk 29) (Cert.Attn.runBlk_lt 29 (by omega)) l) : EReal) := by
  rw [← Cert.Attn.score_scaled _ _ G.q G.k]
  unfold res_main_v237 res_main_v0 res_main_v1
  clean_types
  pointwise
  rw [if_neg (mul_ne_zero (G.from' _) (G.to' _))]
  refine congrArg (fun s : EReal => s * Ideal.ofBits .f32 0x3E000000#32) (Finset.sum_congr rfl fun x _ => congrArg _ ?_)
  split_ifs <;>
    exact congrArg (argK V0) ((ix4_inj _ _ _ _ _ _ _ _).mpr ⟨rfl, rfl, Fin.ext (by simp only [Cert.Attn.key, Cert.Attn.runBlk]; omega), rfl⟩)

/-- Query block 31 against key blocks 30 and 31. -/
theorem v273_apply (G : Good V0) (h : Fin 12) (r : Fin 64) (l : Fin 128) :
    (res_main_v273 V0 : S1x12x64x128.Idx → EReal) (ix4 0 h r l)
    = (Cert.Attn.score (argQ V0) (argK V0) h ⟨1984 + r.val, by omega⟩ (Cert.Attn.key (B := 2) rfl (Cert.Attn.runBlk 30) (Cert.Attn.runBlk_lt 30 (by omega)) l) : EReal) := by
  rw [← Cert.Attn.score_scaled _ _ G.q G.k]
  unfold res_main_v273 res_main_v0 res_main_v1
  clean_types
  pointwise
  rw [if_neg (mul_ne_zero (G.from' _) (G.to' _))]
  refine congrArg (fun s : EReal => s * Ideal.ofBits .f32 0x3E000000#32) (Finset.sum_congr rfl fun x _ => congrArg _ ?_)
  split_ifs <;>
    exact congrArg (argK V0) ((ix4_inj _ _ _ _ _ _ _ _).mpr ⟨rfl, rfl, Fin.ext (by simp only [Cert.Attn.key, Cert.Attn.runBlk]; omega), rfl⟩)

/-! ## Their exponentials, the row's maximum subtracted -/

theorem v164_apply (X : S1x12x64x128.Idx → EReal) (hX : res_main_v157 V0 = X) (h : Fin 12) (r : Fin 64) (l : Fin 128) :
    (res_main_v164 V0 : S1x12x64x128.Idx → EReal) (ix4 0 h r l)
    = Ideal.exp (X (ix4 0 h r l) - max (Ideal.ofBits .f32 0xFF800000#32)
        (Finset.univ.fold max (Ideal.ofBits .f32 0xFF800000#32) fun x : Fin 128 => X (ix4 0 h r x))) := by
  unfold res_main_v164
  rw [hX]
  clean_types
  pointwise

theorem v204_apply (X : S1x12x64x192.Idx → EReal) (hX : res_main_v197 V0 = X) (h : Fin 12) (r : Fin 64) (l : Fin 192) :
    (res_main_v204 V0 : S1x12x64x192.Idx → EReal) (ix4 0 h r l)
    = Ideal.exp (X (ix4 0 h r l) - max (Ideal.ofBits .f32 0xFF800000#32)
        (Finset.univ.fold max (Ideal.ofBits .f32 0xFF800000#32) fun x : Fin 192 => X (ix4 0 h r x))) := by
  unfold res_main_v204
  rw [hX]
  clean_types
  pointwise

theorem v244_apply (X : S1x12x64x192.Idx → EReal) (hX : res_main_v237 V0 = X) (h : Fin 12) (r : Fin 64) (l : Fin 192) :
    (res_main_v244 V0 : S1x12x64x192.Idx → EReal) (ix4 0 h r l)
    = Ideal.exp (X (ix4 0 h r l) - max (Ideal.ofBits .f32 0xFF800000#32)
        (Finset.univ.fold max (Ideal.ofBits .f32 0xFF800000#32) fun x : Fin 192 => X (ix4 0 h r x))) := by
  unfold res_main_v244
  rw [hX]
  clean_types
  pointwise

theorem v280_apply (X : S1x12x64x128.Idx → EReal) (hX : res_main_v273 V0 = X) (h : Fin 12) (r : Fin 64) (l : Fin 128) :
    (res_main_v280 V0 : S1x12x64x128.Idx → EReal) (ix4 0 h r l)
    = Ideal.exp (X (ix4 0 h r l) - max (Ideal.ofBits .f32 0xFF800000#32)
        (Finset.univ.fold max (Ideal.ofBits .f32 0xFF800000#32) fun x : Fin 128 => X (ix4 0 h r x))) := by
  unfold res_main_v280
  rw [hX]
  clean_types
  pointwise

end Cert.ReferenceIdeal.Attn
-- ==== Proof.RefMidExp.lean ====
module

public import proofs.«01_k».proof.Proof.RefEdges
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Attn

open Cert.ReferenceIdeal Cert.ReferenceIdeal.Value Idealize.ShloMosaic Idealize.ShloMosaic.TcCoe Idealize.SL.Sem

variable {V0 : Valuation τ sig (Elt Ideal)}

/-! ## The middle query blocks -/

/-- The maximum over the last axis, at an index. -/
theorem reduce_last {n0 n1 n2 n3 L : ℕ} {u : Shape} (X : (⟨5, ![n0, n1, n2, n3, L]⟩ : Shape).Idx → EReal) (init : u.Idx → EReal)
    (hr : (⟨5, ![n0, n1, n2, n3, L]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) X init hr hu (ix4 a b c d)
    = Finset.univ.fold max (init (Shape.Idx.first hu)) fun x : Fin L => X (ix5 a b c d x) := by
  rw [Host.reduce_eq_fold, hr.fold_fiber_r5_a4]
  rfl

/-- The exponential of a row less what its broadcast maximum is, at an index. -/
theorem exp_less (X : FVec Ideal S1x12x28x64x2624 .f32) (Y : FVec Ideal S1x12x28x64 .f32) (h : Fin 12) (p : Fin 28) (r : Fin 64) (l : Fin 2624) :
    Host.exp (subf X (broadcastInDim S1x12x28x64x2624 ![0, 1, 2, 3, 4] Gen.bcast_S1x12x28x64x1_S1x12x28x64x2624_0_1_2_3_4
      (broadcastInDim S1x12x28x64x1 ![0, 1, 2, 3] Gen.bcast_S1x12x28x64_S1x12x28x64x1_0_1_2_3
        (maximumf (broadcastInDim S1x12x28x64 ![] Gen.bcast_S_S1x12x28x64 (constant S_ .f32 0xFF800000#32)) Y)))) (ix5 0 h p r l)
    = Ideal.exp (X (ix5 0 h p r l) - max (Ideal.ofBits .f32 0xFF800000#32) (Y (ix4 0 h p r))) := by
  pointwise

theorem v129_eq : res_main_v129 V0 =
    Host.exp (subf (res_main_v122 V0) (broadcastInDim S1x12x28x64x2624 ![0, 1, 2, 3, 4] Gen.bcast_S1x12x28x64x1_S1x12x28x64x2624_0_1_2_3_4
      (broadcastInDim S1x12x28x64x1 ![0, 1, 2, 3] Gen.bcast_S1x12x28x64_S1x12x28x64x1_0_1_2_3
        (maximumf (broadcastInDim S1x12x28x64 ![] Gen.bcast_S_S1x12x28x64 (constant S_ .f32 0xFF800000#32))
          (Host.reduce FloatOps.maximumf (res_main_v122 V0) (constant S_ .f32 0xFF800000#32) Gen.reducesTo_S1x12x28x64x2624_S1x12x28x64_d4 Gen.h_S_))))) := rfl

theorem red_apply (X : FVec Ideal S1x12x28x64x2624 .f32) (h : Fin 12) (p : Fin 28) (r : Fin 64) :
    Host.reduce FloatOps.maximumf X (constant (F := Ideal) S_ .f32 0xFF800000#32) Gen.reducesTo_S1x12x28x64x2624_S1x12x28x64_d4 Gen.h_S_ (ix4 0 h p r)
    = Finset.univ.fold max (Ideal.ofBits .f32 0xFF800000#32) fun x : Fin 2624 => X (ix5 0 h p r x) :=
  reduce_last X _ _ _ 0 h p r

theorem v129_apply (X : FVec Ideal S1x12x28x64x2624 .f32) (hX : res_main_v122 V0 = X) (h : Fin 12) (p : Fin 28) (r : Fin 64) (l : Fin 2624) :
    (res_main_v129 V0 : FVec Ideal S1x12x28x64x2624 .f32) (ix5 0 h p r l)
    = Ideal.exp (X (ix5 0 h p r l) - max (Ideal.ofBits .f32 0xFF800000#32)
        (Finset.univ.fold max (Ideal.ofBits .f32 0xFF800000#32) fun x : Fin 2624 => X (ix5 0 h p r x))) := by
  rw [← red_apply X h p r]
  refine Eq.trans ?_ (exp_less X _ h p r l)
  rw [v129_eq, hX]

end Cert.ReferenceIdeal.Attn
-- ==== Proof.RefMid.lean ====
module

public import proofs.«01_k».proof.Proof.RefMidExp
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Attn

open Cert.ReferenceIdeal Cert.ReferenceIdeal.Value Idealize.ShloMosaic Idealize.ShloMosaic.TcCoe Idealize.SL.Sem

variable {V0 : Valuation τ sig (Elt Ideal)}

/-! ## The middle query blocks -/

/-- The band mask, regrouped by blocks, has no zero. -/
theorem v14_ne (G : Good V0) (i : S1x1x32x32x64x64.Idx) : @Ne EReal ((res_main_v14 V0 : S1x1x32x32x64x64.Idx → EReal) i) 0 := by
  unfold res_main_v14
  idx_vars i
  clean_types
  pointwise
  exact G.band _

theorem gather_ne (G : Good V0) {si t : Shape} {w : ℕ} (D : GatherDims S1x1x32x32x64x64 si t) (idx : IVec si w) (j : t.Idx) :
    @Ne EReal (Host.gather D (res_main_v14 V0 : S1x1x32x32x64x64.Idx → EReal) idx j) 0 := v14_ne G _

theorem rand_lt (ra : IVec S12x30x3 32) (hr : ∀ i, (ra i).toNat < 32) (p : ℕ) (x : Fin 36) : Cert.Attn.randBlk ra p x < 32 := by
  unfold Cert.Attn.randBlk
  split_ifs
  · exact hr _
  · omega

/-- The keys of a middle query block. -/
abbrev midKey (G : Good V0) (p : Fin 28) : Fin 2624 → Fin 2048 :=
  Cert.Attn.key (B := 41) rfl (Cert.Attn.midBlk (Cert.Attn.randBlk (argR V0) p) p) (fun b => Cert.Attn.midBlk_lt _ (rand_lt _ G.r p) _ p.isLt b)

/-- A row of the keys (or of the values) that place `l` of the list names. -/
theorem read_key (G : Good V0) (A : S1x12x2048x64.Idx → EReal) (h : Fin 12) (p : Fin 28) (x : Fin 64) (l : Fin 2624) (n : Fin 2048) (b : ℕ)
    (hb : Cert.Attn.midBlk (Cert.Attn.randBlk (argR V0) p) p ⟨l.val / 64, by omega⟩ = b) (hn : n.val = 64 * b + l.val % 64) :
    A (ix4 0 h n x) = A (ix4 0 h (midKey G p l) x) := by
  refine congrArg A ((ix4_inj _ _ _ _ _ _ _ _).mpr ⟨rfl, rfl, Fin.ext (hn.trans ?_), rfl⟩)
  unfold midKey Cert.Attn.key
  simp only [hb]

/-- The concatenation of the window's, the end and the random blocks, read at a place of the list. -/
theorem mid_read (G : Good V0) (A : S1x12x2048x64.Idx → EReal) (h : Fin 12) (p : Fin 28) (x : Fin 64) (l : Fin 2624) :
    (if h0 : l.val < 192 then
      if h1 : l.val < 64 then A (ix4 0 h ⟨(1 + p.val) * 64 + l.val, by omega⟩ x)
      else if h2 : l.val - 64 < 64 then A (ix4 0 h ⟨(2 + p.val) * 64 + (l.val - 64), by omega⟩ x)
      else A (ix4 0 h ⟨(3 + p.val) * 64 + (l.val - 64 - 64), by omega⟩ x)
    else if h1 : l.val - 192 < 128 then
      if h2 : l.val - 192 < 64 then A (ix4 0 h ⟨l.val - 192, by omega⟩ x)
      else A (ix4 0 h ⟨1984 + (l.val - 192 - 64), by omega⟩ x)
    else
      Host.gather gather_S1x12x32x64x64_S12x28x3x1_S1x12x12x28x3x64x64_0156_2_n_n_2_3_11216464
          (shapeCast S1x12x32x64x64 A Gen.shapeCasts_S1x12x2048x64_S1x12x32x64x64)
          (broadcastInDim S12x28x3x1 ![0, 1, 2] Gen.bcast_S12x28x3_S12x28x3x1_0_1_2
            (select (cmpi CmpIPredicate.slt (res_main_v9 V0) (broadcastInDim S12x28x3 ![] Gen.bcast_S_S12x28x3 (constantI S_ 32 0#32)))
              (addi (res_main_v9 V0) (broadcastInDim S12x28x3 ![] Gen.bcast_S_S12x28x3 (constantI S_ 32 32#32)))
              (res_main_v9 V0)))
          (ix7 0 h ⟨(l.val - 192 - 128) / 192, by omega⟩ p ⟨(l.val - 192 - 128) / 64 % 3, by omega⟩ ⟨(l.val - 192 - 128) % 64, by omega⟩ x)
        * FloatOps.uitofp (F := Ideal) .f32 ((res_main_v8 V0 : IVec S12x28x3 1) (ix3 ⟨(l.val - 192 - 128) / 192, by omega⟩ p ⟨(l.val - 192 - 128) / 64 % 3, by omega⟩)))
    = A (ix4 0 h (midKey G p l) x) := by
  have hl := l.isLt
  have hp := p.isLt
  by_cases h0 : l.val < 192
  · rw [dif_pos h0]
    by_cases h1 : l.val < 64
    · rw [dif_pos h1]
      exact read_key G A h p x l _ (1 + p.val) (by unfold Cert.Attn.midBlk; rw [if_pos (by show l.val / 64 = 0; omega)])
        (by show (1 + p.val) * 64 + l.val = _; omega)
    · rw [dif_neg h1]
      by_cases h2 : l.val - 64 < 64
      · rw [dif_pos h2]
        exact read_key G A h p x l _ (2 + p.val) (by unfold Cert.Attn.midBlk; rw [if_neg (by show ¬ l.val / 64 = 0; omega), if_pos (by show l.val / 64 = 1; omega)])
          (by show (2 + p.val) * 64 + (l.val - 64) = _; omega)
      · rw [dif_neg h2]
        exact read_key G A h p x l _ (3 + p.val) (by unfold Cert.Attn.midBlk; rw [if_neg (by show ¬ l.val / 64 = 0; omega), if_neg (by show ¬ l.val / 64 = 1; omega), if_pos (by show l.val / 64 = 2; omega)])
          (by show (3 + p.val) * 64 + (l.val - 64 - 64) = _; omega)
  · rw [dif_neg h0]
    by_cases h1 : l.val - 192 < 128
    · rw [dif_pos h1]
      by_cases h2 : l.val - 192 < 64
      · rw [dif_pos h2]
        exact read_key G A h p x l _ 0 (by
            unfold Cert.Attn.midBlk
            rw [if_neg (by show ¬ l.val / 64 = 0; omega), if_neg (by show ¬ l.val / 64 = 1; omega), if_neg (by show ¬ l.val / 64 = 2; omega),
              if_pos (by show l.val / 64 = 3; omega)])
          (by show l.val - 192 = _; omega)
      · rw [dif_neg h2]
        exact read_key G A h p x l _ 31 (by
            unfold Cert.Attn.midBlk
            rw [if_neg (by show ¬ l.val / 64 = 0; omega), if_neg (by show ¬ l.val / 64 = 1; omega), if_neg (by show ¬ l.val / 64 = 2; omega),
              if_neg (by show ¬ l.val / 64 = 3; omega), if_pos (by show l.val / 64 = 4; omega)])
          (by show 1984 + (l.val - 192 - 64) = _; omega)
    · rw [dif_neg h1]
      refine rand_read V0 G.r A h _ p _ _ x (midKey G p l) ?_
      show 64 * Cert.Attn.midBlk (Cert.Attn.randBlk (argR V0) p) p ⟨l.val / 64, _⟩ + l.val % 64 = _
      unfold Cert.Attn.midBlk
      rw [if_neg (by show ¬ l.val / 64 = 0; omega), if_neg (by show ¬ l.val / 64 = 1; omega), if_neg (by show ¬ l.val / 64 = 2; omega),
        if_neg (by show ¬ l.val / 64 = 3; omega), if_neg (by show ¬ l.val / 64 = 4; omega), dif_pos (by show 5 ≤ l.val / 64; omega)]
      unfold Cert.Attn.randBlk
      rw [dif_pos hp]
      have e1 : (l.val / 64 - 5) / 3 = (l.val - 192 - 128) / 192 := by omega
      have e2 : (l.val / 64 - 5) % 3 = (l.val - 192 - 128) / 64 % 3 := by omega
      have e3 : l.val % 64 = (l.val - 192 - 128) % 64 := by omega
      simp only [e1, e2, e3]

theorem v122_apply (G : Good V0) (h : Fin 12) (p : Fin 28) (r : Fin 64) (l : Fin 2624) :
    (res_main_v122 V0 : S1x12x28x64x2624.Idx → EReal) (ix5 0 h p r l)
    = (Cert.Attn.score (argQ V0) (argK V0) h ⟨(2 + p.val) * 64 + r.val, by omega⟩ (midKey G p l) : EReal) := by
  rw [← Cert.Attn.score_scaled _ _ G.q G.k]
  have hg := fun {si t : Shape} {w : ℕ} (D : GatherDims S1x1x32x32x64x64 si t) (idx : IVec si w) (j : t.Idx) => gather_ne G D idx j
  unfold res_main_v122 res_main_v0 res_main_v1
  clean_types
  pointwise
  refine (congrArg (fun b => Scalar.select b _ _) (?_ : _ = (0#1 : BitVec 1))).trans ?_
  · by_cases h0 : l.val < 192
    · rw [dif_pos h0]
      refine congrArg BitVec.ofBool (decide_eq_false ?_)
      by_cases h1 : l.val < 64
      · rw [dif_pos h1]; exact hg _ _ _
      · rw [dif_neg h1]
        by_cases h2 : l.val - 64 < 64
        · rw [dif_pos h2]; exact hg _ _ _
        · rw [dif_neg h2]; exact hg _ _ _
    · rw [dif_neg h0]
  show _ * Ideal.ofBits .f32 0x3E000000#32 = _
  refine congrArg (fun s : EReal => s * Ideal.ofBits .f32 0x3E000000#32) (Finset.sum_congr rfl fun x _ => congrArg _ ?_)
  exact mid_read G (argK V0) h p x l

end Cert.ReferenceIdeal.Attn
-- ==== Proof.RefFinal.lean ====
module

public import proofs.«01_k».proof.Proof.RefMid
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Attn

open Cert.ReferenceIdeal Cert.ReferenceIdeal.Value Idealize.ShloMosaic Idealize.ShloMosaic.TcCoe Idealize.SL.Sem

variable {V0 : Valuation τ sig (Elt Ideal)}

/-- A sum over 128 places in two halves. -/
theorem sum_two (f : Fin 128 → EReal) (a b : Fin 64 → EReal) (ha : ∀ x, a x = f ⟨x.val, by omega⟩) (hb : ∀ x, b x = f ⟨64 + x.val, by omega⟩) :
    (∑ x : Fin 64, a x) + ∑ x : Fin 64, b x = ∑ x : Fin 128, f x := by
  rw [Finset.sum_congr rfl fun x _ => ha x, Finset.sum_congr rfl fun x _ => hb x]
  exact (Fin.sum_univ_add (show Fin (64 + 64) → EReal from f)).symm

/-- A place of a run of blocks names the key at that distance from the run's start. -/
theorem read_run (A : S1x12x2048x64.Idx → EReal) {B L : ℕ} (hL : L = B * 64) (a : ℕ) (hb : a + B ≤ 32) (h : Fin 12) (d : Fin 64) (l : Fin L)
    (n : Fin 2048) (hn : n.val = 64 * a + l.val) :
    A (ix4 0 h n d) = A (ix4 0 h (Cert.Attn.key hL (Cert.Attn.runBlk a) (Cert.Attn.runBlk_lt a hb) l) d) := by
  refine congrArg A ((ix4_inj _ _ _ _ _ _ _ _).mpr ⟨rfl, rfl, Fin.ext (hn.trans ?_), rfl⟩)
  simp only [Cert.Attn.key, Cert.Attn.runBlk]
  omega

/-- The target at a row whose block attends to the list `blk`. -/
theorem target_of {B : ℕ} (blk : Fin B → ℕ) (h : Fin 12) (n n' : Fin 2048) (d : Fin 64) (hn : n' = n)
    (hc : ∀ j, Cert.Attn.count (Cert.Attn.randBlk (argR V0)) (n.val / 64) j = Cert.Attn.times blk j) :
    Cert.Attn.weighted (Cert.Attn.score (argQ V0) (argK V0) h n') (fun t => Cert.Attn.times blk (t.val / 64)) (fun t => argV V0 (ix4 0 h t d))
    = Cert.Attn.target (argQ V0) (argK V0) (argV V0) (argR V0) h n d := by
  subst hn
  unfold Cert.Attn.target
  simp only [hc]

/-! ## A row of each of the five kinds of query block -/

theorem row0 (G : Good V0) (h : Fin 12) (r d : Fin 64) (W : Fin 128 → EReal)
    (hW : ∀ l, W l = argV V0 (ix4 0 h (Cert.Attn.key (B := 2) rfl (Cert.Attn.runBlk 0) (Cert.Attn.runBlk_lt 0 (by omega)) l) d)) :
    ∑ l : Fin 128, Ideal.div ((res_main_v164 V0 : S1x12x64x128.Idx → EReal) (ix4 0 h r l)) (∑ l' : Fin 128, (res_main_v164 V0 : S1x12x64x128.Idx → EReal) (ix4 0 h r l')) * W l
    = Cert.Attn.weighted (Cert.Attn.score (argQ V0) (argK V0) h ⟨r.val, by omega⟩) (fun t => Cert.Attn.times (B := 2) (Cert.Attn.runBlk 0) (t.val / 64))
        (fun t => argV V0 (ix4 0 h t d)) :=
  Cert.Attn.list_softmax (B := 2) rfl (by omega) (Cert.Attn.runBlk 0) (Cert.Attn.runBlk_lt 0 (by omega)) _ (fun t => argV V0 (ix4 0 h t d))
    (fun l => (res_main_v157 V0 : S1x12x64x128.Idx → EReal) (ix4 0 h r l)) _ _ (fun l => v157_apply G h r l) (fun l => v164_apply _ rfl h r l) hW

theorem row64 (G : Good V0) (h : Fin 12) (r d : Fin 64) (W : Fin 192 → EReal)
    (hW : ∀ l, W l = argV V0 (ix4 0 h (Cert.Attn.key (B := 3) rfl (Cert.Attn.runBlk 0) (Cert.Attn.runBlk_lt 0 (by omega)) l) d)) :
    ∑ l : Fin 192, Ideal.div ((res_main_v204 V0 : S1x12x64x192.Idx → EReal) (ix4 0 h r l)) (∑ l' : Fin 192, (res_main_v204 V0 : S1x12x64x192.Idx → EReal) (ix4 0 h r l')) * W l
    = Cert.Attn.weighted (Cert.Attn.score (argQ V0) (argK V0) h ⟨64 + r.val, by omega⟩) (fun t => Cert.Attn.times (B := 3) (Cert.Attn.runBlk 0) (t.val / 64))
        (fun t => argV V0 (ix4 0 h t d)) :=
  Cert.Attn.list_softmax (B := 3) rfl (by omega) (Cert.Attn.runBlk 0) (Cert.Attn.runBlk_lt 0 (by omega)) _ (fun t => argV V0 (ix4 0 h t d))
    (fun l => (res_main_v197 V0 : S1x12x64x192.Idx → EReal) (ix4 0 h r l)) _ _ (fun l => v197_apply G h r l) (fun l => v204_apply _ rfl h r l) hW

theorem row1920 (G : Good V0) (h : Fin 12) (r d : Fin 64) (W : Fin 192 → EReal)
    (hW : ∀ l, W l = argV V0 (ix4 0 h (Cert.Attn.key (B := 3) rfl (Cert.Attn.runBlk 29) (Cert.Attn.runBlk_lt 29 (by omega)) l) d)) :
    ∑ l : Fin 192, Ideal.div ((res_main_v244 V0 : S1x12x64x192.Idx → EReal) (ix4 0 h r l)) (∑ l' : Fin 192, (res_main_v244 V0 : S1x12x64x192.Idx → EReal) (ix4 0 h r l')) * W l
    = Cert.Attn.weighted (Cert.Attn.score (argQ V0) (argK V0) h ⟨1920 + r.val, by omega⟩) (fun t => Cert.Attn.times (B := 3) (Cert.Attn.runBlk 29) (t.val / 64))
        (fun t => argV V0 (ix4 0 h t d)) :=
  Cert.Attn.list_softmax (B := 3) rfl (by omega) (Cert.Attn.runBlk 29) (Cert.Attn.runBlk_lt 29 (by omega)) _ (fun t => argV V0 (ix4 0 h t d))
    (fun l => (res_main_v237 V0 : S1x12x64x192.Idx → EReal) (ix4 0 h r l)) _ _ (fun l => v237_apply G h r l) (fun l => v244_apply _ rfl h r l) hW

theorem row1984 (G : Good V0) (h : Fin 12) (r d : Fin 64) (W : Fin 128 → EReal)
    (hW : ∀ l, W l = argV V0 (ix4 0 h (Cert.Attn.key (B := 2) rfl (Cert.Attn.runBlk 30) (Cert.Attn.runBlk_lt 30 (by omega)) l) d)) :
    ∑ l : Fin 128, Ideal.div ((res_main_v280 V0 : S1x12x64x128.Idx → EReal) (ix4 0 h r l)) (∑ l' : Fin 128, (res_main_v280 V0 : S1x12x64x128.Idx → EReal) (ix4 0 h r l')) * W l
    = Cert.Attn.weighted (Cert.Attn.score (argQ V0) (argK V0) h ⟨1984 + r.val, by omega⟩) (fun t => Cert.Attn.times (B := 2) (Cert.Attn.runBlk 30) (t.val / 64))
        (fun t => argV V0 (ix4 0 h t d)) :=
  Cert.Attn.list_softmax (B := 2) rfl (by omega) (Cert.Attn.runBlk 30) (Cert.Attn.runBlk_lt 30 (by omega)) _ (fun t => argV V0 (ix4 0 h t d))
    (fun l => (res_main_v273 V0 : S1x12x64x128.Idx → EReal) (ix4 0 h r l)) _ _ (fun l => v273_apply G h r l) (fun l => v280_apply _ rfl h r l) hW

theorem row_mid (G : Good V0) (h : Fin 12) (p : Fin 28) (r d : Fin 64) (W : Fin 2624 → EReal) (hW : ∀ l, W l = argV V0 (ix4 0 h (midKey G p l) d)) :
    ∑ l : Fin 2624, Ideal.div ((res_main_v129 V0 : S1x12x28x64x2624.Idx → EReal) (ix5 0 h p r l))
        (∑ l' : Fin 2624, (res_main_v129 V0 : S1x12x28x64x2624.Idx → EReal) (ix5 0 h p r l')) * W l
    = Cert.Attn.weighted (Cert.Attn.score (argQ V0) (argK V0) h ⟨(2 + p.val) * 64 + r.val, by omega⟩)
        (fun t => Cert.Attn.times (Cert.Attn.midBlk (Cert.Attn.randBlk (argR V0) p) p) (t.val / 64)) (fun t => argV V0 (ix4 0 h t d)) :=
  Cert.Attn.list_softmax (B := 41) rfl (by omega) _ (fun b => Cert.Attn.midBlk_lt _ (rand_lt _ G.r p) _ p.isLt b) _ (fun t => argV V0 (ix4 0 h t d))
    (fun l => (res_main_v122 V0 : S1x12x28x64x2624.Idx → EReal) (ix5 0 h p r l)) _ _ (fun l => v122_apply G h p r l) (fun l => v129_apply _ rfl h p r l) hW

/-! ## The rows together -/

theorem v287_apply (G : Good V0) (h : Fin 12) (i : Fin 32) (r d : Fin 64) :
    (res_main_v287 V0 : S1x12x32x64x64.Idx → EReal) (ix5 0 h i r d)
    = Cert.Attn.target (argQ V0) (argK V0) (argV V0) (argR V0) h ⟨64 * i.val + r.val, by omega⟩ d := by
  have hi := i.isLt
  have hr := r.isLt
  have hn : (64 * i.val + r.val) / 64 = i.val := by omega
  unfold res_main_v287 res_main_v2
  clean_types
  pointwise
  by_cases h1 : i.val < 1
  · rw [dif_pos h1]
    refine Eq.trans ?_ (target_of (Cert.Attn.runBlk 0 (B := 2)) h _ ⟨r.val, by omega⟩ d (Fin.ext (by show r.val = 64 * i.val + r.val; omega)) ?_)
    · refine (sum_two _ _ _ (fun x => ?_) fun x => ?_).trans (row0 G h r d _ fun l => rfl)
      · refine congrArg _ (read_run (argV V0) rfl 0 (by omega) h d _ _ ?_)
        show x.val = 64 * 0 + x.val
        omega
      · refine congrArg _ (read_run (argV V0) rfl 0 (by omega) h d _ _ ?_)
        show 64 + x.val = 64 * 0 + (64 + x.val)
        omega
    · intro j
      show Cert.Attn.count _ ((64 * i.val + r.val) / 64) j = _
      rw [hn]
      unfold Cert.Attn.count
      rw [if_pos (by omega)]
  rw [dif_neg h1]
  by_cases h2 : i.val - 1 < 1
  · rw [dif_pos h2]
    refine Eq.trans ?_ (target_of (Cert.Attn.runBlk 0 (B := 3)) h _ ⟨64 + r.val, by omega⟩ d (Fin.ext (by show 64 + r.val = 64 * i.val + r.val; omega)) ?_)
    · refine row64 G h r d _ fun x => ?_
      have hx := x.isLt
      by_cases g1 : x.val < 64
      · rw [dif_pos g1]
        refine read_run (B := 3) (argV V0) rfl 0 (by omega) h d x _ ?_
        show x.val = 64 * 0 + x.val
        omega
      rw [dif_neg g1]
      by_cases g2 : x.val - 64 < 64
      · rw [dif_pos g2]
        refine read_run (B := 3) (argV V0) rfl 0 (by omega) h d x _ ?_
        show 64 + (x.val - 64) = 64 * 0 + x.val
        omega
      · rw [dif_neg g2]
        refine read_run (B := 3) (argV V0) rfl 0 (by omega) h d x _ ?_
        show 128 + (x.val - 64 - 64) = 64 * 0 + x.val
        omega
    · intro j
      show Cert.Attn.count _ ((64 * i.val + r.val) / 64) j = _
      rw [hn]
      unfold Cert.Attn.count
      rw [if_neg (by omega), if_pos (by omega)]
  rw [dif_neg h2]
  by_cases h3 : i.val - 1 - 1 < 28
  · rw [dif_pos h3]
    refine Eq.trans ?_ (target_of (Cert.Attn.midBlk (Cert.Attn.randBlk (argR V0) (i.val - 1 - 1)) (i.val - 1 - 1)) h _ ⟨(2 + (i.val - 1 - 1)) * 64 + r.val, by omega⟩ d
      (Fin.ext (by show (2 + (i.val - 1 - 1)) * 64 + r.val = 64 * i.val + r.val; omega)) ?_)
    · exact row_mid G h ⟨i.val - 1 - 1, h3⟩ r d _ fun x => mid_read G (argV V0) h ⟨i.val - 1 - 1, h3⟩ d x
    · intro j
      show Cert.Attn.count _ ((64 * i.val + r.val) / 64) j = _
      rw [hn]
      unfold Cert.Attn.count
      rw [if_neg (by omega), if_neg (by omega), if_pos (by omega)]
      rfl
  rw [dif_neg h3]
  by_cases h4 : i.val - 1 - 1 - 28 < 1
  · rw [dif_pos h4]
    refine Eq.trans ?_ (target_of (Cert.Attn.runBlk 29 (B := 3)) h _ ⟨1920 + r.val, by omega⟩ d (Fin.ext (by show 1920 + r.val = 64 * i.val + r.val; omega)) ?_)
    · refine row1920 G h r d _ fun x => ?_
      have hx := x.isLt
      by_cases g1 : x.val < 64
      · rw [dif_pos g1]
        refine read_run (B := 3) (argV V0) rfl 29 (by omega) h d x _ ?_
        show 1856 + x.val = 64 * 29 + x.val
        omega
      rw [dif_neg g1]
      by_cases g2 : x.val - 64 < 64
      · rw [dif_pos g2]
        refine read_run (B := 3) (argV V0) rfl 29 (by omega) h d x _ ?_
        show 1920 + (x.val - 64) = 64 * 29 + x.val
        omega
      · rw [dif_neg g2]
        refine read_run (B := 3) (argV V0) rfl 29 (by omega) h d x _ ?_
        show 1984 + (x.val - 64 - 64) = 64 * 29 + x.val
        omega
    · intro j
      show Cert.Attn.count _ ((64 * i.val + r.val) / 64) j = _
      rw [hn]
      unfold Cert.Attn.count
      rw [if_neg (by omega), if_neg (by omega), if_neg (by omega), if_pos (by omega)]
  rw [dif_neg h4]
  refine Eq.trans ?_ (target_of (Cert.Attn.runBlk 30 (B := 2)) h _ ⟨1984 + r.val, by omega⟩ d (Fin.ext (by show 1984 + r.val = 64 * i.val + r.val; omega)) ?_)
  · refine (sum_two _ _ _ (fun x => ?_) fun x => ?_).trans (row1984 G h r d _ fun l => rfl)
    · refine congrArg _ (read_run (argV V0) rfl 30 (by omega) h d _ _ ?_)
      show 1920 + x.val = 64 * 30 + x.val
      omega
    · refine congrArg _ (read_run (argV V0) rfl 30 (by omega) h d _ _ ?_)
      show 1984 + x.val = 64 * 30 + (64 + x.val)
      omega
  · intro j
    show Cert.Attn.count _ ((64 * i.val + r.val) / 64) j = _
    rw [hn]
    unfold Cert.Attn.count
    rw [if_neg (by omega), if_neg (by omega), if_neg (by omega), if_neg (by omega)]

/-- An entry of the reference's result. -/
theorem result_value (G : Good V0) (n : Fin 2048) (h : Fin 12) (d : Fin 64) :
    (transpose S1x2048x12x64 [0, 2, 1, 3] (shapeCast S1x12x2048x64 (res_main_v287 V0 : S1x12x32x64x64.Idx → EReal) Gen.shapeCasts_S1x12x32x64x64_S1x12x2048x64)
      Gen.transposes_S1x12x2048x64_S1x2048x12x64_0_2_1_3) (ix4 0 n h d)
    = Cert.Attn.target (argQ V0) (argK V0) (argV V0) (argR V0) h n d := by
  have e := v287_apply G h ⟨n.val / 64, by omega⟩ ⟨n.val % 64, by omega⟩ d
  have hn : (⟨64 * (n.val / 64) + n.val % 64, by omega⟩ : Fin 2048) = n := Fin.ext (by show 64 * (n.val / 64) + n.val % 64 = n.val; omega)
  rw [hn] at e
  rw [← e]
  generalize (res_main_v287 V0 : S1x12x32x64x64.Idx → EReal) = X
  pointwise

end Cert.ReferenceIdeal.Attn
-- ==== Proof.Agree.lean ====
module

public import proofs.«01_k».proof.Defs
public import proofs.«01_k».proof.Proof.KernelFinal
public import proofs.«01_k».proof.Proof.Pre
public import proofs.«01_k».proof.Proof.RefFinal
public import proofs.«01_k».proof.Proof.Gen.ReferenceIdeal.Run
public import Idealize.ShloMosaic.Lib.Claim

@[expose] public section

noncomputable section

namespace Cert.Proof

open Idealize.ShloMosaic Idealize.ShloMosaic.StableHlo Idealize.SL.Sem

/-- The result both programs leave: at position `n`, head `h`, coordinate `d` the attention target of the arguments. -/
def shared (q k v : Cert.KernelIdeal.S1x12x2048x64.Idx → EReal) (r : IVec Cert.KernelIdeal.S12x30x3 32) :
    Cert.KernelIdeal.S1x2048x12x64.Idx → EReal :=
  fun i => Cert.Attn.target q k v r (i 2) (i 1) (i 3)

/-- An array that reads as the target at every position, head and coordinate is the shared result. -/
theorem eq_shared {q k v : Cert.KernelIdeal.S1x12x2048x64.Idx → EReal} {r : IVec Cert.KernelIdeal.S12x30x3 32}
    {X : Cert.KernelIdeal.S1x2048x12x64.Idx → EReal} (hX : ∀ n h d, X (ix4 0 n h d) = Cert.Attn.target q k v r h n d) : X = shared q k v r := by
  funext i
  obtain ⟨n, h, d, rfl⟩ : ∃ (n : Fin 2048) (h : Fin 12) (d : Fin 64), i = ix4 0 n h d :=
    ⟨i 1, i 2, i 3, (eq_ix4 i).trans (congrArg (fun z : Fin 1 => ix4 z (i 1) (i 2) (i 3)) (Subsingleton.elim _ _))⟩
  exact hX n h d

/-- The target depends on the four arguments alone. -/
theorem target_congr {q q' k k' v v' : Cert.KernelIdeal.S1x12x2048x64.Idx → EReal} {r r' : IVec Cert.KernelIdeal.S12x30x3 32}
    (hq : q = q') (hk : k = k') (hv : v = v') (hr : r = r') (h : Fin 12) (n : Fin 2048) (d : Fin 64) :
    Cert.Attn.target q k v r h n d = Cert.Attn.target q' k' v' r' h n d := by
  subst hq hk hv hr
  rfl

/-- On the arguments the precondition admits, the kernel and the reference leave the same result. -/
theorem algebraic : Cert.algebraic_KernelIdeal_ReferenceIdeal_pre_nothing_masked := by
  intro m g m' g' hpre hagree
  refine ⟨fun c => shared (m (c, Proc.devRef .tc Cert.KernelIdeal.main_arg0)) (m (c, Proc.devRef .tc Cert.KernelIdeal.main_arg1))
    (m (c, Proc.devRef .tc Cert.KernelIdeal.main_arg2)) (m (c, Proc.devRef .tc Cert.KernelIdeal.main_arg8)), ?_, ?_⟩
  · refine θ_run_mono (Cert.KernelIdeal.Attn.run m g) fun r hr c => ⟨(hr c).1.trans ?_, (hr c).2⟩
    obtain ⟨hq, hk, -, -, -, h8⟩ := Cert.Pre_nothing_masked.Attn.facts_of _ _ _ _ _ _ _ _ _ (hpre c)
    exact eq_shared fun n h d => Cert.KernelIdeal.Attn.result_value m c hq hk h8 n h d
  · refine θ_run_mono (Cert.ReferenceIdeal.Value.run m' g') fun r hr c => ⟨(hr c).1.trans ?_, (hr c).2⟩
    obtain ⟨hq, hk, h3, h4, h5, h8⟩ := Cert.Pre_nothing_masked.Attn.facts_of _ _ _ _ _ _ _ _ _ (hpre c)
    obtain ⟨e0, e1, e2, e3, e4, e5, -, -, e8⟩ := hagree c
    rw [← e0] at hq
    rw [← e1] at hk
    rw [← e3] at h3
    rw [← e4] at h4
    rw [← e5] at h5
    rw [← e8] at h8
    have G : Cert.ReferenceIdeal.Attn.Good (launchContents m' c) := ⟨hq, hk, h3, h4, h5, h8⟩
    refine eq_shared fun n h d => (Cert.ReferenceIdeal.Attn.result_value G n h d).trans ?_
    exact target_congr e0 e1 e2 e8 h n d

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nothing_masked
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs, its arguments end as they began, and it has no semaphores to leave unpaid. -/
theorem frame_reference : Cert.quiescent_ReferenceIdeal := fun m g _ =>
  θ_run_mono (Cert.ReferenceIdeal.Value.run m g) fun r h => ⟨fun c => (h c).2, sem_eq_zero_of_no_sems (by decide) r.2⟩

/-- The three frames (those that state the precondition follow from those that do not), the idealization, and the equality of the results. -/
theorem claim : Cert.Claim := ⟨Cert.Kernel.Gen.facts, Cert.KernelIdeal.Gen.facts, Cert.ReferenceIdeal.Gen.facts, Cert.Pre_nothing_masked.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  algebraic⟩

end Cert.Proof

end
